-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S4096x1024 : Shape := ⟨2, ![4096, 1024]⟩
abbrev S4x1024x1024 : Shape := ⟨3, ![4, 1024, 1024]⟩
abbrev S8 : Shape := ⟨1, ![8]⟩
abbrev S10 : Shape := ⟨1, ![10]⟩
abbrev S_ : Shape := ⟨0, ![]⟩
abbrev S1 : Shape := ⟨1, ![1]⟩
abbrev S512x512 : Shape := ⟨2, ![512, 512]⟩
abbrev S1x512x1024 : Shape := ⟨3, ![1, 512, 1024]⟩
abbrev S256x512 : Shape := ⟨2, ![256, 512]⟩
abbrev S256x1024 : Shape := ⟨2, ![256, 1024]⟩
abbrev S1x256x1024 : Shape := ⟨3, ![1, 256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S4096x1024, .f32⟩
  | .local _ .vmem, ⟨0, _⟩ => ⟨S1024x512, .f32⟩
  | .local _ .vmem, ⟨1, _⟩ => ⟨S512x1024, .f32⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S4x1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v36 : BitVec 32 := Scalar.muli v24 c1_i32_24
  let v37 : BitVec 32 := Scalar.addi c0_i32_25 v36
  v37.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32 : BitVec 32 := 1#32
  let v44 : BitVec 32 := Scalar.muli v13 c1_i32_32
  let v45 : BitVec 32 := Scalar.addi c0_i32_33 v44
  v45.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v52 : BitVec 32 := Scalar.muli v24 c1_i32_39
  let v53 : BitVec 32 := Scalar.addi c0_i32_40 v52
  v53.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_46 : BitVec 32 := 1#32
  let v60 : BitVec 32 := Scalar.muli v13 c1_i32_46
  let v61 : BitVec 32 := Scalar.addi c0_i32_47 v60
  v61.toNat
def k0_off1 (d0 : Dev nD) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v80 : BitVec 32 := Scalar.muli v2 c1024_i32
  let v81 : BitVec 32 := Scalar.addi v80 c0_i32_63
  let c0_i32_66 : BitVec 32 := 0#32
  ![v81.toNat, 0]
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_93 : BitVec 32 := 1#32
  let v106 : BitVec 32 := Scalar.muli v24 c1_i32_93
  let v107 : BitVec 32 := Scalar.addi c0_i32_94 v106
  v107.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_100 : BitVec 32 := 1#32
  let v114 : BitVec 32 := Scalar.muli v24 c1_i32_100
  let v115 : BitVec 32 := Scalar.addi c0_i32_101 v114
  v115.toNat
def k0_off2 (d0 : Dev nD) (c0_i32_113 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_112 : BitVec 32 := 1024#32
  let v128 : BitVec 32 := Scalar.muli v13 c1024_i32_112
  let v129 : BitVec 32 := Scalar.addi v128 c0_i32_113
  let c0_i32_116 : BitVec 32 := 0#32
  ![v129.toNat, 0]
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v141 : BitVec 32 := Scalar.muli v13 c1_i32_128
  let v142 : BitVec 32 := Scalar.addi c0_i32_129 v141
  v142.toNat
def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_135 : BitVec 32 := 1#32
  let v149 : BitVec 32 := Scalar.muli v13 c1_i32_135
  let v150 : BitVec 32 := Scalar.addi c0_i32_136 v149
  v150.toNat
def k0_off3 (d0 : Dev nD) (c512_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_147 : BitVec 32 := 1024#32
  let v163 : BitVec 32 := Scalar.muli v24 c1024_i32_147
  let v164 : BitVec 32 := Scalar.addi v163 c512_i32_148
  let c0_i32_151 : BitVec 32 := 0#32
  ![v164.toNat, 0]
def k0_off4 (d0 : Dev nD) (c0_i32_223 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_200 : BitVec 32 := 2#32
  let v208 : BitVec 32 := Scalar.addi v2 c2_i32_200
  let c4_i32_201 : BitVec 32 := 4#32
  let c0_i32_202 : BitVec 32 := 0#32
  let v209 : BitVec 1 := Scalar.cmpi .eq c4_i32_201 c0_i32_202
  let c1_i32_203 : BitVec 32 := 1#32
  let v210 : BitVec 32 := Scalar.select v209 c1_i32_203 c4_i32_201
  let v211 : BitVec 32 := Scalar.remsi v208 v210
  let c0_i32_205 : BitVec 32 := 0#32
  let v213 : BitVec 1 := Scalar.cmpi .slt v211 c0_i32_205
  let c0_i32_206 : BitVec 32 := 0#32
  let v214 : BitVec 1 := Scalar.cmpi .slt v210 c0_i32_206
  let v215 : BitVec 1 := Scalar.xori v213 v214
  let c0_i32_204 : BitVec 32 := 0#32
  let v212 : BitVec 1 := Scalar.cmpi .ne v211 c0_i32_204
  let v216 : BitVec 1 := Scalar.andi v215 v212
  let v217 : BitVec 32 := Scalar.addi v211 v210
  let v218 : BitVec 32 := Scalar.select v216 v217 v211
  let c1024_i32_222 : BitVec 32 := 1024#32
  let v231 : BitVec 32 := Scalar.muli v218 c1024_i32_222
  let v232 : BitVec 32 := Scalar.addi v231 c0_i32_223
  let c0_i32_226 : BitVec 32 := 0#32
  ![v232.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The mesh, the buffers and the values of the matrix product on a ring of four devices

Each device holds a block of 1024 rows of `A` and the whole of `B`. It rounds both to bf16, sends the two halves
of its block to both ring neighbours, forwards what it received (two quarters each way) so that the block of the device
opposite arrives too, and multiplies every piece it holds by `B`, copying each product from its accumulator in VMEM to
the rows of the result. This module names the neighbours, the pieces of the buffers that transfers move, the semaphores,
and the values the pieces hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the kernel's own rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's own rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

abbrev 𝒱₀ : Variants := Variants.none

/-! ## The ring -/

/-- The right neighbour, the left neighbour and the device opposite. -/
def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem prv_nxt (c : Dev nD) : prv (nxt c) = c := by revert c; decide +kernel
theorem nxt_prv (c : Dev nD) : nxt (prv c) = c := by revert c; decide +kernel
theorem opp_nxt (c : Dev nD) : opp (nxt c) = prv c := by revert c; decide +kernel
theorem opp_prv (c : Dev nD) : opp (prv c) = nxt c := by revert c; decide +kernel
theorem nxt_nxt (c : Dev nD) : nxt (nxt c) = opp c := by revert c; decide +kernel
theorem prv_prv (c : Dev nD) : prv (prv c) = opp c := by revert c; decide +kernel

def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = prv c := by revert c; decide +kernel

/-! ## The memrefs and their pieces -/

abbrev aM : Memref sig .tc .vmem S1024x512 .f32 := Memref.whole cc0_stg0_0
abbrev bsM : Memref sig .tc .vmem S512x1024 .f32 := Memref.whole cc0_stg1_0
abbrev vM : Memref sig .tc .hbm S4096x1024 .f32 := Memref.whole main_v1
/-- The device's own block in bf16, `B` in bf16, what came from the left, from the right, from the device opposite; the
    accumulator, a slot of 1024 rows per origin. -/
abbrev mM : Memref sig .tc .vmem S1024x512 .bf16 := Memref.whole cc0_scratch0
abbrev bM : Memref sig .tc .vmem S512x1024 .bf16 := Memref.whole cc0_scratch1
abbrev lM : Memref sig .tc .vmem S1024x512 .bf16 := Memref.whole cc0_scratch2
abbrev rM : Memref sig .tc .vmem S1024x512 .bf16 := Memref.whole cc0_scratch3
abbrev dM : Memref sig .tc .vmem S1024x512 .bf16 := Memref.whole cc0_scratch4
abbrev oM : Memref sig .tc .vmem S4x1024x1024 .f32 := Memref.whole cc0_scratch5

/-- The two halves and the four quarters of a block's rows. -/
abbrev rT : Rect S1024x512 := Rect.unit (s := S1024x512) ![0, 0] S512x512.size inb_S1024x512_S512x512_0_0
abbrev rB : Rect S1024x512 := Rect.unit (s := S1024x512) ![512, 0] S512x512.size inb_S1024x512_S512x512_512_0
abbrev rQ0 : Rect S1024x512 := Rect.unit (s := S1024x512) ![0, 0] S256x512.size inb_S1024x512_S256x512_0_0
abbrev rQ1 : Rect S1024x512 := Rect.unit (s := S1024x512) ![256, 0] S256x512.size inb_S1024x512_S256x512_256_0
abbrev rQ2 : Rect S1024x512 := Rect.unit (s := S1024x512) ![512, 0] S256x512.size inb_S1024x512_S256x512_512_0
abbrev rQ3 : Rect S1024x512 := Rect.unit (s := S1024x512) ![768, 0] S256x512.size inb_S1024x512_S256x512_768_0

abbrev top (M : Memref sig .tc .vmem S1024x512 .bf16) : Memref sig .tc .vmem S512x512 .bf16 := M.slice rT (fun _ => rfl)
abbrev bot (M : Memref sig .tc .vmem S1024x512 .bf16) : Memref sig .tc .vmem S512x512 .bf16 := M.slice rB (fun _ => rfl)
abbrev qa (M : Memref sig .tc .vmem S1024x512 .bf16) : Memref sig .tc .vmem S256x512 .bf16 := M.slice rQ0 (fun _ => rfl)
abbrev qb (M : Memref sig .tc .vmem S1024x512 .bf16) : Memref sig .tc .vmem S256x512 .bf16 := M.slice rQ1 (fun _ => rfl)
abbrev qc (M : Memref sig .tc .vmem S1024x512 .bf16) : Memref sig .tc .vmem S256x512 .bf16 := M.slice rQ2 (fun _ => rfl)
abbrev qd (M : Memref sig .tc .vmem S1024x512 .bf16) : Memref sig .tc .vmem S256x512 .bf16 := M.slice rQ3 (fun _ => rfl)

/-- The accumulator's ten pieces, in the order their copies are numbered. -/
abbrev rO0 : Rect S4x1024x1024 := Rect.unit (s := S4x1024x1024) ![0, 0, 0] S1x512x1024.size inb_S4x1024x1024_S1x512x1024_0_0_0
abbrev rO1 : Rect S4x1024x1024 := Rect.unit (s := S4x1024x1024) ![0, 512, 0] S1x512x1024.size inb_S4x1024x1024_S1x512x1024_0_512_0
abbrev rO2 : Rect S4x1024x1024 := Rect.unit (s := S4x1024x1024) ![1, 0, 0] S1x512x1024.size inb_S4x1024x1024_S1x512x1024_1_0_0
abbrev rO3 : Rect S4x1024x1024 := Rect.unit (s := S4x1024x1024) ![2, 512, 0] S1x512x1024.size inb_S4x1024x1024_S1x512x1024_2_512_0
abbrev rO4 : Rect S4x1024x1024 := Rect.unit (s := S4x1024x1024) ![1, 512, 0] S1x512x1024.size inb_S4x1024x1024_S1x512x1024_1_512_0
abbrev rO5 : Rect S4x1024x1024 := Rect.unit (s := S4x1024x1024) ![2, 0, 0] S1x512x1024.size inb_S4x1024x1024_S1x512x1024_2_0_0
abbrev rO6 : Rect S4x1024x1024 := Rect.unit (s := S4x1024x1024) ![3, 0, 0] S1x256x1024.size inb_S4x1024x1024_S1x256x1024_3_0_0
abbrev rO7 : Rect S4x1024x1024 := Rect.unit (s := S4x1024x1024) ![3, 256, 0] S1x256x1024.size inb_S4x1024x1024_S1x256x1024_3_256_0
abbrev rO8 : Rect S4x1024x1024 := Rect.unit (s := S4x1024x1024) ![3, 512, 0] S1x256x1024.size inb_S4x1024x1024_S1x256x1024_3_512_0
abbrev rO9 : Rect S4x1024x1024 := Rect.unit (s := S4x1024x1024) ![3, 768, 0] S1x256x1024.size inb_S4x1024x1024_S1x256x1024_3_768_0

/-- A piece of the accumulator as the copy out of it names it: the slot's axis dropped. -/
abbrev accH (r : Rect S4x1024x1024) (hr : ∀ a, r.stride a = 1) (hs : r.shape.Squeezes S512x1024) : Memref sig .tc .vmem S512x1024 .f32 :=
  (oM.slice r hr).squeeze S512x1024 hs
abbrev accQ (r : Rect S4x1024x1024) (hr : ∀ a, r.stride a = 1) (hs : r.shape.Squeezes S256x1024) : Memref sig .tc .vmem S256x1024 .f32 :=
  (oM.slice r hr).squeeze S256x1024 hs
abbrev o0 : Memref sig .tc .vmem S512x1024 .f32 := accH rO0 (fun _ => rfl) squeezes_S1x512x1024_S512x1024
abbrev o1 : Memref sig .tc .vmem S512x1024 .f32 := accH rO1 (fun _ => rfl) squeezes_S1x512x1024_S512x1024
abbrev o2 : Memref sig .tc .vmem S512x1024 .f32 := accH rO2 (fun _ => rfl) squeezes_S1x512x1024_S512x1024
abbrev o3 : Memref sig .tc .vmem S512x1024 .f32 := accH rO3 (fun _ => rfl) squeezes_S1x512x1024_S512x1024
abbrev o4 : Memref sig .tc .vmem S512x1024 .f32 := accH rO4 (fun _ => rfl) squeezes_S1x512x1024_S512x1024
abbrev o5 : Memref sig .tc .vmem S512x1024 .f32 := accH rO5 (fun _ => rfl) squeezes_S1x512x1024_S512x1024
abbrev o6 : Memref sig .tc .vmem S256x1024 .f32 := accQ rO6 (fun _ => rfl) squeezes_S1x256x1024_S256x1024
abbrev o7 : Memref sig .tc .vmem S256x1024 .f32 := accQ rO7 (fun _ => rfl) squeezes_S1x256x1024_S256x1024
abbrev o8 : Memref sig .tc .vmem S256x1024 .f32 := accQ rO8 (fun _ => rfl) squeezes_S1x256x1024_S256x1024
abbrev o9 : Memref sig .tc .vmem S256x1024 .f32 := accQ rO9 (fun _ => rfl) squeezes_S1x256x1024_S256x1024

/-- The result's rows the ten pieces are copied to. -/
abbrev rW0 (c : Dev nD) : Rect S4096x1024 := Rect.unit (s := S4096x1024) (k0_off1 c 0#32) S512x1024.size (k0_off1_inb c 0)
abbrev rW1 (c : Dev nD) : Rect S4096x1024 := Rect.unit (s := S4096x1024) (k0_off1 c 512#32) S512x1024.size (k0_off1_inb c 1)
abbrev rW2 (c : Dev nD) : Rect S4096x1024 := Rect.unit (s := S4096x1024) (k0_off2 c 0#32) S512x1024.size (k0_off2_inb c 0)
abbrev rW3 (c : Dev nD) : Rect S4096x1024 := Rect.unit (s := S4096x1024) (k0_off3 c 512#32) S512x1024.size (k0_off3_inb c 1)
abbrev rW4 (c : Dev nD) : Rect S4096x1024 := Rect.unit (s := S4096x1024) (k0_off2 c 512#32) S512x1024.size (k0_off2_inb c 1)
abbrev rW5 (c : Dev nD) : Rect S4096x1024 := Rect.unit (s := S4096x1024) (k0_off3 c 0#32) S512x1024.size (k0_off3_inb c 0)
abbrev rW6 (c : Dev nD) : Rect S4096x1024 := Rect.unit (s := S4096x1024) (k0_off4 c 0#32) S256x1024.size (k0_off4_inb c 0)
abbrev rW7 (c : Dev nD) : Rect S4096x1024 := Rect.unit (s := S4096x1024) (k0_off4 c 256#32) S256x1024.size (k0_off4_inb c 1)
abbrev rW8 (c : Dev nD) : Rect S4096x1024 := Rect.unit (s := S4096x1024) (k0_off4 c 512#32) S256x1024.size (k0_off4_inb c 2)
abbrev rW9 (c : Dev nD) : Rect S4096x1024 := Rect.unit (s := S4096x1024) (k0_off4 c 768#32) S256x1024.size (k0_off4_inb c 3)
abbrev w0 (c : Dev nD) : Memref sig .tc .hbm S512x1024 .f32 := vM.slice (rW0 c) (fun _ => rfl)
abbrev w1 (c : Dev nD) : Memref sig .tc .hbm S512x1024 .f32 := vM.slice (rW1 c) (fun _ => rfl)
abbrev w2 (c : Dev nD) : Memref sig .tc .hbm S512x1024 .f32 := vM.slice (rW2 c) (fun _ => rfl)
abbrev w3 (c : Dev nD) : Memref sig .tc .hbm S512x1024 .f32 := vM.slice (rW3 c) (fun _ => rfl)
abbrev w4 (c : Dev nD) : Memref sig .tc .hbm S512x1024 .f32 := vM.slice (rW4 c) (fun _ => rfl)
abbrev w5 (c : Dev nD) : Memref sig .tc .hbm S512x1024 .f32 := vM.slice (rW5 c) (fun _ => rfl)
abbrev w6 (c : Dev nD) : Memref sig .tc .hbm S256x1024 .f32 := vM.slice (rW6 c) (fun _ => rfl)
abbrev w7 (c : Dev nD) : Memref sig .tc .hbm S256x1024 .f32 := vM.slice (rW7 c) (fun _ => rfl)
abbrev w8 (c : Dev nD) : Memref sig .tc .hbm S256x1024 .f32 := vM.slice (rW8 c) (fun _ => rfl)
abbrev w9 (c : Dev nD) : Memref sig .tc .hbm S256x1024 .f32 := vM.slice (rW9 c) (fun _ => rfl)

/-- The rows of the result each copy goes to: its own block's first, then the left, right and opposite device's. -/
theorem off1_eq : ∀ (c : Dev nD) (r : Fin 2), k0_off1 c (BitVec.ofNat 32 (512 * r.val)) = ![1024 * c.val + 512 * r.val, 0] := k0_off1_eq
theorem off2_eq : ∀ (c : Dev nD) (r : Fin 2), k0_off2 c (BitVec.ofNat 32 (512 * r.val)) = ![1024 * (prv c).val + 512 * r.val, 0] := by decide +kernel
theorem off3_eq : ∀ (c : Dev nD) (r : Fin 2), k0_off3 c (BitVec.ofNat 32 (512 * r.val)) = ![1024 * (nxt c).val + 512 * r.val, 0] := by decide +kernel
theorem off4_eq : ∀ (c : Dev nD) (r : Fin 4), k0_off4 c (BitVec.ofNat 32 (256 * r.val)) = ![1024 * (opp c).val + 256 * r.val, 0] := by decide +kernel

/-! ## The semaphores -/

/-- The barrier semaphore, the eight sends' and the eight receives' on one device. -/
abbrev barS : Sem sig := (SemArray.scalar (sig.barrier 0 rfl) : Sems sig S_).sem
set_option backward.proofsInPublic true in
abbrev sSem (i : Fin 8) : DmaSem sig := ⟨2 + i.val, show 2 + i.val < 28 by omega⟩
set_option backward.proofsInPublic true in
abbrev vSem (i : Fin 8) : DmaSem sig := ⟨10 + i.val, show 10 + i.val < 28 by omega⟩
set_option backward.proofsInPublic true in
abbrev cSem (p : Fin 10) : DmaSem sig := ⟨18 + p.val, show 18 + p.val < 28 by omega⟩

theorem sendS_eq (i : Fin 8) (inb) : ((cc0_scratch6.slice (Rect.unit (s := S8) ![i.val] S1.size inb)).squeeze S_ squeezes_S1_S_).sem = sSem i := by
  revert inb; revert i; decide +kernel
theorem recvS_eq (i : Fin 8) (inb) : ((cc0_scratch7.slice (Rect.unit (s := S8) ![i.val] S1.size inb)).squeeze S_ squeezes_S1_S_).sem = vSem i := by
  revert inb; revert i; decide +kernel
theorem copyS_eq (p : Fin 10) (inb) : ((cc0_scratch8.slice (Rect.unit (s := S10) ![p.val] S1.size inb)).squeeze S_ squeezes_S1_S_).sem = cSem p := by
  revert inb; revert p; decide +kernel

abbrev barCell (c : Dev nD) : GSem nD τ sig := ((c : Thread nD τ), .reg barS)
abbrev sCell (c : Dev nD) (i : Fin 8) : GSem nD τ sig := ((c : Thread nD τ), .dma (sSem i))
abbrev vCell (c : Dev nD) (i : Fin 8) : GSem nD τ sig := ((c : Thread nD τ), .dma (vSem i))

/-- What a half block's transfer credits, and a quarter's. -/
abbrev NH : ℕ := (top lM).view.dmaCredit
abbrev NQ : ℕ := (qa dM).view.dmaCredit
theorem NH_pos : 0 < NH := View.dmaCredit_pos _ (by decide)
theorem NQ_pos : 0 < NQ := View.dmaCredit_pos _ (by decide)

/-- Transfers 0 to 3 move halves, 4 to 7 quarters. -/
def amt (i : Fin 8) : ℕ := if i.val < 4 then NH else NQ
theorem amt_pos (i : Fin 8) : 0 < amt i := by unfold amt; split; exact NH_pos; exact NQ_pos

/-- Transfers 0, 2, 4, 5 go right, the others left. -/
def tgt (i : Fin 8) (c : Dev nD) : Dev nD := if i.val = 0 ∨ i.val = 2 ∨ i.val = 4 ∨ i.val = 5 then nxt c else prv c
def src (i : Fin 8) (c : Dev nD) : Dev nD := if i.val = 0 ∨ i.val = 2 ∨ i.val = 4 ∨ i.val = 5 then prv c else nxt c
theorem tgt_src (i : Fin 8) (c : Dev nD) : tgt i (src i c) = c := by unfold tgt src; split; exact nxt_prv c; exact prv_nxt c
theorem src_tgt (i : Fin 8) (c : Dev nD) : src i (tgt i c) = c := by unfold tgt src; split; exact prv_nxt c; exact nxt_prv c
def around (i : Fin 8) : Dev nD ≃ Dev nD := ⟨tgt i, src i, src_tgt i, tgt_src i⟩

/-! ## Ownership of the pieces -/

/-- Device `c` owns a memref at a share, reading `X` through it; or wholly, at some contents. -/
abbrev hold (c : Dev nD) {sp : Space} {s : Shape} {e : EltTy} (M : Memref sig .tc sp s e) (q : PosShare TreeShare) (X : s.Idx → Elt F e) : sProp 𝕄 :=
  owns (c : Thread nD τ) M q X
def free (c : Dev nD) {sp : Space} {s : Shape} {e : EltTy} (M : Memref sig .tc sp s e) : sProp 𝕄 := iprop(∃ X, hold (F := F) c M fullShare X)

omit [FloatOps F] in
instance free_storable (c : Dev nD) {sp : Space} {s : Shape} {e : EltTy} (M : Memref sig .tc sp s e) : BI.Storable (upEmb : UEmb _ 𝕄) (free (F := F) c M) := by
  unfold free; infer_instance

/-! ## The values -/

variable (m : (ℓ : Loc nD τ sig) → Buf (Elt F) ℓ) (ρ : Dev nD → PrngReg)

/-- Device `c`'s block of `A` and `B`, as staged, and the two in bf16. -/
def aStg (c : Dev nD) : (cc0_stg0_0 : Ref sig .tc).ty.Contents (Elt F) := iblk m c 0 t0_0
def bStg (c : Dev nD) : (cc0_stg1_0 : Ref sig .tc).ty.Contents (Elt F) := iblk m c 1 t0_0
def abf (c : Dev nD) : Vec F S1024x512 .bf16 := k0_pay2 (k0_pay1 (aStg m c))
def bbf (c : Dev nD) : Vec F S512x1024 .bf16 := k0_pay3 (bStg m c)

/-- A block's rows in one of the rectangles. -/
def cut {α : Type} (r : Rect S1024x512) (f : S1024x512.Idx → α) : r.shape.Idx → α := fun j => f (r.emb j)

/-- The product of a half block by `B`, and of a quarter. -/
def prodH (x : Vec F S512x512 .bf16) (y : Vec F S512x1024 .bf16) : FVec F S512x1024 .f32 :=
  matmul dot_S512x512_S512x1024_S512x1024_1_0_0_1_n_n none x y (constant S512x1024 .f32 0x00000000#32)
def prodQ (x : Vec F S256x512 .bf16) (y : Vec F S512x1024 .bf16) : FVec F S256x1024 .f32 :=
  matmul dot_S256x512_S512x1024_S256x1024_1_0_0_1_n_n none x y (constant S256x1024 .f32 0x00000000#32)

/-- What the ten pieces hold when they are copied. -/
abbrev z0 (c : Dev nD) : FVec F S512x1024 .f32 := prodH (cut rT (abf m c)) (bbf m c)
abbrev z1 (c : Dev nD) : FVec F S512x1024 .f32 := prodH (cut rB (abf m c)) (bbf m c)
abbrev z2 (c : Dev nD) : FVec F S512x1024 .f32 := prodH (cut rT (abf m (prv c))) (bbf m c)
abbrev z3 (c : Dev nD) : FVec F S512x1024 .f32 := prodH (cut rB (abf m (nxt c))) (bbf m c)
abbrev z4 (c : Dev nD) : FVec F S512x1024 .f32 := prodH (cut rB (abf m (prv c))) (bbf m c)
abbrev z5 (c : Dev nD) : FVec F S512x1024 .f32 := prodH (cut rT (abf m (nxt c))) (bbf m c)
abbrev z6 (c : Dev nD) : FVec F S256x1024 .f32 := prodQ (cut rQ0 (abf m (opp c))) (bbf m c)
abbrev z7 (c : Dev nD) : FVec F S256x1024 .f32 := prodQ (cut rQ1 (abf m (opp c))) (bbf m c)
abbrev z8 (c : Dev nD) : FVec F S256x1024 .f32 := prodQ (cut rQ2 (abf m (opp c))) (bbf m c)
abbrev z9 (c : Dev nD) : FVec F S256x1024 .f32 := prodQ (cut rQ3 (abf m (opp c))) (bbf m c)

end Cert.RingProof

end
-- ==== Proof.Sched.lean ====
/-
# What the transfers' semaphores carry

The schedule of the barrier cell, the eight send cells and the eight receive cells of every device: who pays them, how
much, and what the payment hands over. The local copies are not scheduled: one device issues and awaits them.
-/
module

public import proofs.«01_k».proof.Proof.Mesh

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- What `d`'s barrier is handed by its right neighbour (duty `true`): the buffers of the neighbour that `d` sends into. -/
def barPayT (d : Dev nD) : sProp 𝕄 :=
  iprop(free (F := F) (nxt d) (top lM) ∗ free (F := F) (nxt d) (bot lM) ∗ free (F := F) (nxt d) (qa dM) ∗ free (F := F) (nxt d) (qb dM))
/-- And by its left neighbour (duty `false`). -/
def barPayF (d : Dev nD) : sProp 𝕄 :=
  iprop(free (F := F) (prv d) (top rM) ∗ free (F := F) (prv d) (bot rM) ∗ free (F := F) (prv d) (qc dM) ∗ free (F := F) (prv d) (qd dM))

/-- What a completed send gives back: its source, at the share it was lent. -/
def sendPay (d : Dev nD) (i : Fin 8) : sProp 𝕄 :=
  match i with
  | 0 => hold d (top mM) fullShare.left (cut rT (abf m d))
  | 1 => hold d (bot mM) fullShare.left (cut rB (abf m d))
  | 2 => hold d (bot mM) fullShare.right.left (cut rB (abf m d))
  | 3 => hold d (top mM) fullShare.right.left (cut rT (abf m d))
  | 4 => hold d (qa lM) fullShare.left (cut rQ0 (abf m (prv d)))
  | 5 => hold d (qb lM) fullShare.left (cut rQ1 (abf m (prv d)))
  | 6 => hold d (qc rM) fullShare.left (cut rQ2 (abf m (nxt d)))
  | 7 => hold d (qd rM) fullShare.left (cut rQ3 (abf m (nxt d)))

/-- What a completed receive gives: its destination, holding the sender's rows. -/
def recvPay (d : Dev nD) (i : Fin 8) : sProp 𝕄 :=
  match i with
  | 0 => hold d (top lM) fullShare (cut rT (abf m (prv d)))
  | 1 => hold d (bot rM) fullShare (cut rB (abf m (nxt d)))
  | 2 => hold d (bot lM) fullShare (cut rB (abf m (prv d)))
  | 3 => hold d (top rM) fullShare (cut rT (abf m (nxt d)))
  | 4 => hold d (qa dM) fullShare (cut rQ0 (abf m (opp d)))
  | 5 => hold d (qb dM) fullShare (cut rQ1 (abf m (opp d)))
  | 6 => hold d (qc dM) fullShare (cut rQ2 (abf m (opp d)))
  | 7 => hold d (qd dM) fullShare (cut rQ3 (abf m (opp d)))

set_option backward.proofsInPublic true in
/-- A transfer's payload by its semaphore. -/
def dmaPay (d : Dev nD) (q : DmaSem sig) : sProp 𝕄 :=
  if h : 2 ≤ q.val ∧ q.val < 10 then sendPay m d ⟨q.val - 2, by omega⟩
  else if h : 10 ≤ q.val ∧ q.val < 18 then recvPay m d ⟨q.val - 10, by omega⟩
  else iprop(emp)

instance barPayT_storable (d : Dev nD) : BI.Storable (upEmb : UEmb _ 𝕄) (barPayT (F := F) d) := by unfold barPayT; infer_instance
instance barPayF_storable (d : Dev nD) : BI.Storable (upEmb : UEmb _ 𝕄) (barPayF (F := F) d) := by unfold barPayF; infer_instance
instance sendPay_storable (d : Dev nD) (i : Fin 8) : BI.Storable (upEmb : UEmb _ 𝕄) (sendPay m d i) := by
  fin_cases i <;> (dsimp only [sendPay]; infer_instance)
instance recvPay_storable (d : Dev nD) (i : Fin 8) : BI.Storable (upEmb : UEmb _ 𝕄) (recvPay m d i) := by
  fin_cases i <;> (dsimp only [recvPay]; infer_instance)
instance dmaPay_storable (d : Dev nD) (q : DmaSem sig) : BI.Storable (upEmb : UEmb _ 𝕄) (dmaPay m d q) := by
  unfold dmaPay; (repeat' split) <;> infer_instance

/-! ## The schedule -/

/-- What a payment of one of the transfers' cells amounts to. -/
def dmaAmt (q : DmaSem sig) : ℕ := if q.val < 6 ∨ (10 ≤ q.val ∧ q.val < 14) then NH else NQ

def ringRd : Rounds.Schedule (GSem nD τ sig) Bool 𝕄 where
  duties g r := if r = 0 ∧ g.1.2 = .tc then
    (match g.2 with | .reg q => if q = barS then Finset.univ else ∅ | .dma q => if 2 ≤ q.val ∧ q.val < 18 then {false} else ∅) else ∅
  unitless _ := False
  amount g _ _ := match g.2 with | .reg _ => 1 | .dma q => dmaAmt q
  payload g _ d := match g.2 with | .reg _ => if d then barPayT g.1.1 else barPayF g.1.1 | .dma q => dmaPay m g.1.1 q
  amount_pos g _ _ _ := by
    rcases g with ⟨t, q | q⟩
    · exact Nat.one_pos
    · show 0 < dmaAmt q
      unfold dmaAmt; split; exact NH_pos; exact NQ_pos

instance ringRd_payload_storable (g : GSem nD τ sig) (r : ℕ) (d : Bool) :
    BI.Storable (upEmb : UEmb _ 𝕄) ((ringRd m).payload g r d) := by
  rcases g with ⟨t, q | q⟩
  · show BI.Storable upEmb (if d then barPayT t.1 else barPayF t.1)
    split <;> infer_instance
  · show BI.Storable upEmb (dmaPay m t.1 q)
    infer_instance

section Sched
variable (c : Dev nD)

theorem duties_bar : (ringRd m).duties (barCell c) 0 = Finset.univ := by
  dsimp only [ringRd]; rw [if_pos ⟨rfl, rfl⟩]; exact if_pos rfl
theorem duties_dma (q : DmaSem sig) (h : 2 ≤ q.val ∧ q.val < 18) : (ringRd m).duties ((c : Thread nD τ), .dma q) 0 = {false} := by
  dsimp only [ringRd]; rw [if_pos ⟨rfl, rfl⟩]; exact if_pos h
theorem duties_later (g : GSem nD τ sig) : ∀ r, 1 ≤ r → (ringRd m).duties g r = ∅ :=
  fun r hr => by dsimp only [ringRd]; exact if_neg fun h => by omega

theorem amount_bar (d : Bool) : (ringRd m).amount (barCell c) 0 d = 1 := rfl
theorem amount_dma' (q : DmaSem sig) (d : Bool) : (ringRd m).amount ((c : Thread nD τ), .dma q) 0 d = dmaAmt q := rfl
theorem dmaAmt_send (i : Fin 8) : dmaAmt (sSem i) = amt i := by
  unfold dmaAmt amt
  by_cases h : i.val < 4
  · rw [if_pos h, if_pos (.inl (show 2 + i.val < 6 by omega))]
  · rw [if_neg h, if_neg (show ¬ (2 + i.val < 6 ∨ (10 ≤ 2 + i.val ∧ 2 + i.val < 14)) by have := i.isLt; omega)]
theorem dmaAmt_recv (i : Fin 8) : dmaAmt (vSem i) = amt i := by
  unfold dmaAmt amt
  by_cases h : i.val < 4
  · rw [if_pos h, if_pos (.inr (show 10 ≤ 10 + i.val ∧ 10 + i.val < 14 by omega))]
  · rw [if_neg h, if_neg (show ¬ (10 + i.val < 6 ∨ (10 ≤ 10 + i.val ∧ 10 + i.val < 14)) by omega)]
theorem sSem_range (i : Fin 8) : 2 ≤ (sSem i).val ∧ (sSem i).val < 18 := by show 2 ≤ 2 + i.val ∧ 2 + i.val < 18; omega
theorem vSem_range (i : Fin 8) : 2 ≤ (vSem i).val ∧ (vSem i).val < 18 := by show 2 ≤ 10 + i.val ∧ 10 + i.val < 18; omega

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (h : 2 ≤ q.val ∧ q.val < 18) : (ringRd m).expect ((c : Thread nD τ), .dma q) 0 = dmaAmt q := by
  unfold Schedule.expect Schedule.amountOf; rw [duties_dma m c q h, Finset.sum_singleton, amount_dma']

theorem payload_bar_true : (ringRd m).payload (barCell c) 0 true = barPayT c := rfl
theorem payload_bar_false : (ringRd m).payload (barCell c) 0 false = barPayF c := rfl
theorem payload_send (i : Fin 8) (d : Bool) : (ringRd m).payload (sCell c i) 0 d = sendPay m c i := by
  show dmaPay m c (sSem i) = _
  unfold dmaPay
  rw [dif_pos (show 2 ≤ 2 + i.val ∧ 2 + i.val < 10 by omega)]
  congr 1; exact Fin.ext (show 2 + i.val - 2 = i.val by omega)
theorem payload_recv (i : Fin 8) (d : Bool) : (ringRd m).payload (vCell c i) 0 d = recvPay m c i := by
  show dmaPay m c (vSem i) = _
  unfold dmaPay
  rw [dif_neg (show ¬ (2 ≤ 10 + i.val ∧ 10 + i.val < 10) by omega), dif_pos (show 10 ≤ 10 + i.val ∧ 10 + i.val < 18 by omega)]
  congr 1; exact Fin.ext (show 10 + i.val - 10 = i.val by omega)

theorem rest_bar : bigSep ((ringRd m).duties (barCell c) 0 \ ∅) (fun d => (ringRd m).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_dma (q : DmaSem sig) (h : 2 ≤ q.val ∧ q.val < 18) :
    bigSep ((ringRd m).duties ((c : Thread nD τ), .dma q) 0 \ ∅) (fun d => (ringRd m).payload ((c : Thread nD τ), .dma q) 0 d)
      = (ringRd m).payload ((c : Thread nD τ), .dma q) 0 false := by
  rw [Finset.sdiff_empty, duties_dma m c q h, bigSep_singleton]

end Sched

/-! ## What a device owes, and the order of the waits -/

/-- What device `c` still owes the receive cells once its first `n` sends are issued. -/
def OR (c : Dev nD) (n : ℕ) : CellTallies nD τ sig Unit :=
  ∑ i ∈ Finset.univ.filter (fun i : Fin 8 => n ≤ i.val), tallyAt (vCell (tgt i c) i) () (amt i)
/-- Before its second signal, and before its first. -/
def O₁ (c : Dev nD) : CellTallies nD τ sig Unit := OR c 0 + tallyAt (barCell (nxt c)) () 1
def O₀ (c : Dev nD) : CellTallies nD τ sig Unit := O₁ c + tallyAt (barCell (prv c)) () 1

theorem OR_step (c : Dev nD) (i : Fin 8) : OR c i.val = OR c (i.val + 1) + tallyAt (vCell (tgt i c) i) () (amt i) := by
  have h : Finset.univ.filter (fun j : Fin 8 => i.val ≤ j.val) = insert i (Finset.univ.filter (fun j : Fin 8 => i.val + 1 ≤ j.val)) := by
    ext j; simp only [Finset.mem_filter, Finset.mem_univ, true_and, Finset.mem_insert, Fin.ext_iff]; omega
  unfold OR
  rw [h, Finset.sum_insert (by simp), add_comm]
theorem OR_8 (c : Dev nD) : OR c 8 = 0 := by
  unfold OR
  rw [show Finset.univ.filter (fun i : Fin 8 => 8 ≤ i.val) = ∅ from by decide, Finset.sum_empty]

theorem OR_pos {c : Dev nD} {n : ℕ} {g : GSem nD τ sig} {u : Unit} (h : 0 < OR c n g u) : ∃ i : Fin 8, n ≤ i.val ∧ g = vCell (tgt i c) i := by
  unfold OR at h
  rw [Finset.sum_apply, Finsupp.finset_sum_apply] at h
  obtain ⟨i, hi, hne⟩ := Finset.exists_ne_zero_of_sum_ne_zero (Nat.pos_iff_ne_zero.mp h)
  refine ⟨i, (Finset.mem_filter.mp hi).2, ?_⟩
  by_contra hg
  exact hne (by rw [tallyAt_apply, if_neg fun h' => hg h'.1])
theorem O₀_pos {c : Dev nD} {g : GSem nD τ sig} {u : Unit} (h : 0 < O₀ c g u) :
    (∃ i : Fin 8, g = vCell (tgt i c) i) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or] at hn
  obtain ⟨h1, h2⟩ := hn; rw [not_or] at h2
  rw [if_neg (fun h' => h2.1 h'.1), if_neg (fun h' => h2.2 h'.1)] at h
  simp only [Nat.add_zero] at h
  obtain ⟨i, -, hi⟩ := OR_pos h
  exact h1 ⟨i, hi⟩

def L (g : GSem nD τ sig) : Finset Unit := if g.1.2 = .tc then {()} else ∅
/-- Every wait is on a cell below those its device still owes: the barrier, then the halves, then the quarters. -/
def lv (g : GSem nD τ sig) (_ : Unit) : ℕ :=
  match g.2 with
  | .reg _ => 1
  | .dma q => if 10 ≤ q.val ∧ q.val < 14 then 2 else if 14 ≤ q.val ∧ q.val < 18 then 3 else 0
theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 8) : lv (vCell c i) () = if i.val < 4 then 2 else 3 := by
  show (if 10 ≤ 10 + i.val ∧ 10 + i.val < 14 then 2 else if 14 ≤ 10 + i.val ∧ 10 + i.val < 18 then 3 else 0) = _
  by_cases h : i.val < 4
  · rw [if_pos h, if_pos (by omega)]
  · rw [if_neg h, if_neg (by omega), if_pos (by omega)]

/-- A device may wait on a cell at or below level `n` while all it owes lies above. -/
theorem mayWait_cut (c : Dev nD) (sm : SemLoc sig) (n : ℕ) (O : CellTallies nD τ sig Unit) (hsm : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hsm)
    (fun g u hg => (hO g u hg).2)

/-- The barrier's wait, the first half's and the second half's. -/
theorem mayWait_bar (c : Dev nD) : (levAts L lv : sProp 𝕄) ⊢ MayWait (c : Thread nD τ) (.reg barS) () (OR c 0) :=
  mayWait_cut c _ 1 _ le_rfl fun g u h => by
    obtain ⟨i, -, rfl⟩ := OR_pos h
    exact ⟨rfl, by cases u; rw [lv_recv]; split <;> omega⟩
theorem mayWait_recv (c : Dev nD) (i : Fin 8) (hi : i.val < 4) (n : ℕ) (hn : 4 ≤ n) :
    (levAts L lv : sProp 𝕄) ⊢ MayWait (c : Thread nD τ) (.dma (vSem i)) () (OR c n) :=
  mayWait_cut c _ 2 _ (by rw [show lv ((c : Thread nD τ), .dma (vSem i)) () = _ from lv_recv c i, if_pos hi]) fun g u h => by
    obtain ⟨j, hj, rfl⟩ := OR_pos h
    exact ⟨rfl, by cases u; rw [lv_recv, if_neg (by omega)]; omega⟩
/-- The staging transfers' waits. -/
theorem mayWait_stage (c : Dev nD) (q : DmaSem sig) (hq : ¬ (10 ≤ q.val ∧ q.val < 18)) (O : CellTallies nD τ sig Unit) (hO : O = O₀ c ∨ O = 0) :
    (levAts L lv : sProp 𝕄) ⊢ MayWait (c : Thread nD τ) (.dma q) () O := by
  rcases hO with rfl | rfl
  · refine mayWait_cut c _ 0 _ (Nat.le_of_eq ?_) fun g u h => ?_
    · show (if 10 ≤ q.val ∧ q.val < 14 then 2 else if 14 ≤ q.val ∧ q.val < 18 then 3 else 0) = 0
      rw [if_neg (by omega), if_neg (by omega)]
    · rcases O₀_pos h with ⟨i, rfl⟩ | rfl | rfl
      · exact ⟨rfl, by cases u; rw [lv_recv]; split <;> omega⟩
      · exact ⟨rfl, Nat.one_pos⟩
      · exact ⟨rfl, Nat.one_pos⟩
  · rw [MayWait_zero]; iintro -; iempintro

/-! ## The cells and their standing records -/

set_option backward.proofsInPublic true in
/-- A device's seventeen scheduled cells: the barrier's, the sends', the receives'. -/
def csem (k : Fin 17) : SemLoc sig := if k.val = 0 then .reg barS else .dma ⟨k.val + 1, show k.val + 1 < 28 by omega⟩
abbrev kcell (ck : Dev nD × Fin 17) : GSem nD τ sig := ((ck.1 : Thread nD τ), csem ck.2)
set_option backward.proofsInPublic true in
abbrev sIx (i : Fin 8) : Fin 17 := ⟨1 + i.val, by omega⟩
set_option backward.proofsInPublic true in
abbrev vIx (i : Fin 8) : Fin 17 := ⟨9 + i.val, by omega⟩

theorem csem_bar : csem 0 = .reg barS := rfl
theorem csem_send (i : Fin 8) : csem (sIx i) = .dma (sSem i) := by
  unfold csem
  rw [if_neg (show ¬ (1 + i.val = 0) by omega)]
  exact congrArg SemLoc.dma (Fin.ext (show 1 + i.val + 1 = 2 + i.val by omega))
theorem csem_recv (i : Fin 8) : csem (vIx i) = .dma (vSem i) := by
  unfold csem
  rw [if_neg (show ¬ (9 + i.val = 0) by omega)]
  exact congrArg SemLoc.dma (Fin.ext (show 9 + i.val + 1 = 10 + i.val by omega))

/-- Every scheduled cell of the mesh: its invariant, and that its first round has begun. -/
def records (K : Dev nD × Fin 17 → ℕ) : sProp 𝕄 :=
  iprop((bigSep Finset.univ fun ck => cellInv ER (ringRd m) (K ck) (kcell ck)) ∗ bigSep Finset.univ fun ck => reached ER (kcell ck) 0)
instance records_persistent (K : Dev nD × Fin 17 → ℕ) : BI.Persistent (records m K) := by unfold records; infer_instance

variable (K : Dev nD × Fin 17 → ℕ)

theorem inv_at (d : Dev nD) (k : Fin 17) (sm : SemLoc sig) (h : csem k = sm) :
    records m K ⊢ cellInv ER (ringRd m) (K (d, k)) ((d : Thread nD τ), sm) := by
  subst h
  unfold records
  iintro ⟨H, -⟩
  iapply (show _ ⊢ cellInv ER (ringRd m) (K (d, k)) (kcell (d, k)) from bigSep_elim (Finset.mem_univ (d, k))) $$ H
theorem reached_at (d : Dev nD) (k : Fin 17) (sm : SemLoc sig) (h : csem k = sm) :
    records m K ⊢ reached ER (((d : Thread nD τ), sm) : GSem nD τ sig) 0 := by
  subst h
  unfold records
  iintro ⟨-, H⟩
  iapply (show _ ⊢ reached ER (kcell (d, k)) 0 from bigSep_elim (Finset.mem_univ (d, k))) $$ H

end Cert.RingProof

end
-- ==== Proof.Ops.lean ====
/-
# One rule per kind of instruction

The kernel's body is forty-odd instructions of eight kinds. Each kind has one rule here, stated for any piece, transfer or
copy: the loads, the store of a product, the two signals and the barrier's wait, a send, a wait for a transfer, a copy to
the result's rows, and a wait for a copy.
-/
module

public import proofs.«01_k».proof.Proof.Sched
public import Idealize.ShloMosaic.Lib.Pipeline.Value

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers (Flight Flight_mono wp_dmaLocal wp_waitLocal)

variable (K : Dev nD × Fin 17 → ℕ)

/-- Running `p` on device `c`, to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)}

/-- What `c` owes, with some record of its waits. -/
def owing (c : Dev nD) (O : CellTallies nD τ sig Unit) : sProp 𝕄 := iprop(∃ W, owes (c : Thread nD τ) O W)
/-- A receive or send yet to be awaited (its position and the credit for it); the two tokens a send is paid with. -/
def rcv (c : Dev nD) (i : Fin 8) : sProp 𝕄 := iprop(atPos ER (vCell c i) 0 ∅ 0 ∗ cred (tallyAt (vCell c i) () (amt i)))
def snt (c : Dev nD) (i : Fin 8) : sProp 𝕄 := iprop(atPos ER (sCell c i) 0 ∅ 0 ∗ cred (tallyAt (sCell c i) () (amt i)))
def snd (c : Dev nD) (i : Fin 8) : sProp 𝕄 :=
  iprop(atPos ER (sCell c i) 0 ∅ 0 ∗ dutyTok ER (sCell c i) 0 false ∗ dutyTok ER (vCell (tgt i c) i) 0 false)

/-! ## Ownership of pieces -/

/-- A piece owned at a share is its two halves. -/
theorem hold_halves (c : Dev nD) {sp : Space} {s : Shape} {e : EltTy} (M : Memref sig .tc sp s e) (q : PosShare TreeShare) (X : s.Idx → Elt F e) :
    hold c M q X ⊢ iprop(hold c M q.left X ∗ hold c M q.right X) := by
  unfold hold owns
  iintro ⟨%f, %hf, H⟩
  ihave H2 := (pointsTo_share (PosShare.mem_left_op_right q)).1 $$ H
  icases H2 with ⟨H1, H2⟩
  isplitl [H1]
  · iexists f; isplitr; · (ipureintro; exact hf)
    iexact H1
  · iexists f; isplitr; · (ipureintro; exact hf)
    iexact H2

/-- Whole contents through a slice of a whole buffer are the buffer's, read there. -/
theorem free_intro (c : Dev nD) {sp : Space} {s : Shape} {e : EltTy} (M : Memref sig .tc sp s e) (X : s.Idx → Elt F e) :
    hold c M fullShare X ⊢ free c M := by unfold free; iintro H; iexists X; iexact H

/-! ## Loads and stores -/

/-- A load of a piece. -/
theorem run_load (c : Dev nD) {s : Shape} {e : EltTy} (M : Memref sig .tc .vmem s e) (r : Rect s) (hr : ∀ a, r.stride a = 1)
    (q : PosShare TreeShare) (X : r.shape.Idx → Elt F e) {h : M.view.LoadsAt r.toLoadRect}
    {k : (r.shape.Idx → Elt F e) → Prog (TpuEff nD τ sig (Elt F) Λ₀ .tc) α} :
    hold c (M.slice r hr) q X ⊢ iprop((hold c (M.slice r hr) q X -∗ run c (k X) Q) -∗ run c (.op (.load M r.toLoadRect h) k) Q) := by
  unfold hold owns
  iintro ⟨%f, %hf, H⟩ Hk
  subst hf
  iapply (wp_load_rect 𝒱₀ (c : Thread nD τ) none Set.univ (m := M) (r := r) (Finset.Subset.refl _)) $$ H
  iintro H
  iapply Hk
  iexists f; isplitr; · (ipureintro; rfl)
  iexact H

/-- The end of a part. -/
theorem run_ret (c : Dev nD) (x : α) : Q x ⊢ run c (.ret x) Q := by
  unfold run; rw [wp_ret]; iintro H; imodintro; iexact H

/-- A part followed by the rest. -/
theorem run_bind (c : Dev nD) {β : Type} {p : Prog (TpuEff nD τ sig (Elt F) Λ₀ .tc) β} {k : β → Prog (TpuEff nD τ sig (Elt F) Λ₀ .tc) α} :
    run c p (fun x => run c (k x) Q) ⊢ run c (p >>= k) Q := by
  unfold run; rw [wp_bind]

/-- A load of all a memref holds. -/
theorem run_load_all (c : Dev nD) {s : Shape} {e : EltTy} (M : Memref sig .tc .vmem s e) (r : Rect s) (q : PosShare TreeShare) (X : s.Idx → Elt F e)
    (Y : r.shape.Idx → Elt F e) (hXY : ∀ f, M.view.read (Elt F) f = X → M.view.readAt (Elt F) r.toLoadRect f = Y) {h : M.view.LoadsAt r.toLoadRect}
    {k : (r.shape.Idx → Elt F e) → Prog (TpuEff nD τ sig (Elt F) Λ₀ .tc) α} :
    hold c M q X ⊢ iprop((hold c M q X -∗ run c (k Y) Q) -∗ run c (.op (.load M r.toLoadRect h) k) Q) := by
  unfold hold owns
  iintro ⟨%f, %hf, H⟩ Hk
  iapply (wp_load 𝒱₀ (c : Thread nD τ) none Set.univ (m := M) (View.setOn_subset_set _ _)) $$ H
  iintro H
  rw [hXY f hf]
  iapply Hk
  iexists f; isplitr; · (ipureintro; exact hf)
  iexact H

/-- A load of all a memref holds whose value is unused. -/
theorem run_load_dead (c : Dev nD) {s : Shape} {e : EltTy} (M : Memref sig .tc .vmem s e) (r : Rect s) {h : M.view.LoadsAt r.toLoadRect}
    {k : (r.shape.Idx → Elt F e) → Prog (TpuEff nD τ sig (Elt F) Λ₀ .tc) α} :
    free c M ⊢ iprop((∀ w, free c M -∗ run c (k w) Q) -∗ run c (.op (.load M r.toLoadRect h) k) Q) := by
  unfold free hold owns
  iintro ⟨%X, %f, %hf, H⟩ Hk
  iapply (wp_load 𝒱₀ (c : Thread nD τ) none Set.univ (m := M) (View.setOn_subset_set _ _)) $$ H
  iintro H
  iapply Hk
  iexists X, f; isplitr; · (ipureintro; exact hf)
  iexact H

/-- A store to all of a memref. -/
theorem run_store_all (c : Dev nD) {s : Shape} {e : EltTy} (M : Memref sig .tc .vmem s e) (r : Rect s) (w : r.shape.Idx → Elt F e) (X : s.Idx → Elt F e)
    (hw : ∀ f, M.view.read (Elt F) ((M.access r).write (Elt F) f w Finset.univ) = X)
    {hx : (M.access r).Stores Finset.univ} {hm : (Finset.univ : Finset r.shape.Idx) = Finset.univ ∨ ∀ a, r.stride a = 1}
    {k : PUnit → Prog (TpuEff nD τ sig (Elt F) Λ₀ .tc) α} :
    free c M ⊢ iprop((hold c M fullShare X -∗ run c (k ⟨⟩) Q) -∗ run c (.op (.store M r w Finset.univ hx hm) k) Q) := by
  unfold free hold owns
  iintro ⟨%X', %f, -, H⟩ Hk
  iapply (wp_store 𝒱₀ (c : Thread nD τ) none Set.univ (m := M) (r := r) (Mk := Finset.univ) (S := M.view.set)
    (by rw [View.setOn_univ]; exact View.set_slice_subset _ _)) $$ H
  iintro H
  iapply Hk
  iexists _; isplitr; · (ipureintro; exact hw f)
  iexact H

/-- The load of a piece of the accumulator that the program makes before storing there, its value unused. -/
theorem run_load_acc (c : Dev nD) (r : Rect S4x1024x1024) (hr : ∀ a, r.stride a = 1) {s : Shape} (hs : r.shape.Squeezes s)
    {h : oM.view.LoadsAt r.toLoadRect} {k : (r.shape.Idx → Elt F .f32) → Prog (TpuEff nD τ sig (Elt F) Λ₀ .tc) α} :
    free c ((oM.slice r hr).squeeze s hs)
      ⊢ iprop((∀ w, free c ((oM.slice r hr).squeeze s hs) -∗ run c (k w) Q) -∗ run c (.op (.load oM r.toLoadRect h) k) Q) := by
  unfold free hold owns
  iintro ⟨%X, %f, %hf, H⟩ Hk
  iapply (wp_load_rect 𝒱₀ (c : Thread nD τ) none Set.univ (m := oM) (r := r)
    (S := ((oM.slice r hr).squeeze s hs).view.set) (Finset.subset_of_eq (View.set_reshape _ _).symm)) $$ H
  iintro H
  iapply Hk
  iexists X, f; isplitr; · (ipureintro; exact hf)
  iexact H

/-- A store to a piece of the accumulator: the piece then reads the stored value, the slot's axis dropped. -/
theorem run_store_acc (c : Dev nD) (r : Rect S4x1024x1024) (hr : ∀ a, r.stride a = 1) {s : Shape} (hs : r.shape.Squeezes s)
    (w : r.shape.Idx → Elt F .f32) (z : s.Idx → Elt F .f32) (hc : r.shape.ShapeCasts s) (hz : shapeCast s w hc = z)
    {hx : (oM.access r).Stores Finset.univ} {hm : (Finset.univ : Finset r.shape.Idx) = Finset.univ ∨ ∀ a, r.stride a = 1}
    {k : PUnit → Prog (TpuEff nD τ sig (Elt F) Λ₀ .tc) α} :
    free c ((oM.slice r hr).squeeze s hs)
      ⊢ iprop((hold c ((oM.slice r hr).squeeze s hs) fullShare z -∗ run c (k ⟨⟩) Q) -∗ run c (.op (.store oM r w Finset.univ hx hm) k) Q) := by
  unfold free hold owns
  iintro ⟨%X, %f, -, H⟩ Hk
  iapply (wp_store 𝒱₀ (c : Thread nD τ) none Set.univ (m := oM) (r := r) (Mk := Finset.univ)
    (S := ((oM.slice r hr).squeeze s hs).view.set) (by rw [View.setOn_univ]; exact Finset.subset_of_eq (View.set_reshape _ _).symm)) $$ H
  iintro H
  iapply Hk
  iexists _
  isplitr
  · ipureintro
    rw [← hz]
    show shapeCast s ((oM.access r).read (Elt F) ((oM.access r).write (Elt F) f w Finset.univ)) hc = shapeCast s w hc
    rw [View.read_write_univ]
  iexact H

theorem hz : (![0, 0] : Fin 2 → Nat) = fun _ => 0 := funext fun a => by fin_cases a <;> rfl
abbrev ra : Rect S1024x512 := Rect.unit (s := S1024x512) ![0, 0] S1024x512.size inb_S1024x512_S1024x512_0_0
abbrev rb : Rect S512x1024 := Rect.unit (s := S512x1024) ![0, 0] S512x1024.size inb_S512x1024_S512x1024_0_0

/-- A load of the device's `B` in bf16. -/
theorem run_load_b (c : Dev nD) {h : bM.view.LoadsAt rb.toLoadRect} {k : (rb.shape.Idx → Elt F .bf16) → Prog (TpuEff nD τ sig (Elt F) Λ₀ .tc) α} :
    hold c bM fullShare (bbf m c) ⊢ iprop((hold c bM fullShare (bbf m c) -∗ run c (k (bbf m c)) Q) -∗ run c (.op (.load bM rb.toLoadRect h) k) Q) :=
  run_load_all c bM rb fullShare (bbf m c) (bbf m c) fun f hf => (Memref.readAt_unit_zero (Elt F) cc0_scratch1 hz _ f).trans hf

/-- A BLOCK: a piece loaded, `B` loaded, their product stored in a piece of the accumulator. -/
theorem run_block (c : Dev nD) (M : Memref sig .tc .vmem S1024x512 .bf16) (r : Rect S1024x512) (hr : ∀ a, r.stride a = 1)
    (q : PosShare TreeShare) (X : r.shape.Idx → Elt F .bf16)
    (ro : Rect S4x1024x1024) (hro : ∀ a, ro.stride a = 1) {s : Shape} (hs : ro.shape.Squeezes s)
    (pay : (r.shape.Idx → Elt F .bf16) → (rb.shape.Idx → Elt F .bf16) → ro.shape.Idx → Elt F .f32) (z : s.Idx → Elt F .f32)
    (hc : ro.shape.ShapeCasts s) (hz : shapeCast s (pay X (bbf m c)) hc = z)
    {h : M.view.LoadsAt r.toLoadRect} {hb : bM.view.LoadsAt rb.toLoadRect} {ho : oM.view.LoadsAt ro.toLoadRect}
    {hx : (oM.access ro).Stores Finset.univ} {hm : (Finset.univ : Finset ro.shape.Idx) = Finset.univ ∨ ∀ a, ro.stride a = 1}
    {k : PUnit → Prog (TpuEff nD τ sig (Elt F) Λ₀ .tc) α} :
    iprop(hold c (M.slice r hr) q X ∗ hold c bM fullShare (bbf m c) ∗ free (F := F) c ((oM.slice ro hro).squeeze s hs))
      ⊢ iprop((hold c (M.slice r hr) q X ∗ hold c bM fullShare (bbf m c) ∗ hold c ((oM.slice ro hro).squeeze s hs) fullShare z -∗ run c (k ⟨⟩) Q)
          -∗ run c (.op (.load M r.toLoadRect h) fun x => .op (.load bM rb.toLoadRect hb) fun y => .op (.load oM ro.toLoadRect ho) fun _ =>
                .op (.store oM ro (pay x y) Finset.univ hx hm) k) Q) := by
  iintro ⟨HM, Hb, Ho⟩ Hk
  iapply (run_load c M r hr q X) $$ HM; iintro HM
  iapply (run_load_b m c) $$ Hb; iintro Hb
  iapply (run_load_acc c ro hro hs) $$ Ho; iintro %w Ho
  iapply (run_store_acc c ro hro hs _ z hc hz) $$ Ho; iintro Ho
  iapply Hk
  isplitl [HM]; · iexact HM
  isplitl [Hb] <;> iassumption

/-- The values the program stores are the products, a slot's axis added. -/
theorem pay_half (x : Vec F S512x512 .bf16) (y : Vec F S512x1024 .bf16) (hc : S1x512x1024.ShapeCasts S512x1024) :
    shapeCast S512x1024 (k0_pay4 x y) hc = prodH x y := shapeCast_shapeCast _ _ _
theorem pay_quarter (x : Vec F S256x512 .bf16) (y : Vec F S512x1024 .bf16) (hc : S1x256x1024.ShapeCasts S256x1024) :
    shapeCast S256x1024 (k0_pay10 x y) hc = prodQ x y := shapeCast_shapeCast _ _ _

/-! ## The barrier -/

theorem run_signal_left (c n : Dev nD) (hn : n = prv c) {k : PUnit → Prog (TpuEff nD τ sig (Elt F) Λ₀ .tc) α} :
    iprop(records m K ∗ owing c (O₀ c) ∗ dutyTok ER (barCell (prv c)) 0 true
        ∗ free (F := F) c (top lM) ∗ free (F := F) c (bot lM) ∗ free (F := F) c (qa dM) ∗ free (F := F) c (qb dM))
      ⊢ iprop((owing c (O₁ c) -∗ run c (k ⟨⟩) Q) -∗ run c (.op (.semSignal (Dev.tc n : Thread nD τ) barS (1#32 : BitVec 32).toNat) k) Q) := by
  subst hn
  unfold owing
  iintro ⟨#HR, ⟨%W, HO⟩, Ht, HF⟩ Hk
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () (O₁ c) rfl) $$ [HO Ht HF]
  · isplitr; · iapply (inv_at m K (prv c) 0 _ csem_bar) $$ HR
    isplitl [HO]; · iexact HO
    isplitl [Ht]; · iexact Ht
    isplitl [HF]
    · rw [payload_bar_true]; unfold barPayT; rw [nxt_prv]; iexact HF
    · iapply (reached_at m K (prv c) 0 _ csem_bar) $$ HR
  iintro HO
  iapply Hk
  iexists W; iexact HO

theorem run_signal_right (c n : Dev nD) (hn : n = nxt c) {k : PUnit → Prog (TpuEff nD τ sig (Elt F) Λ₀ .tc) α} :
    iprop(records m K ∗ owing c (O₁ c) ∗ dutyTok ER (barCell (nxt c)) 0 false
        ∗ free (F := F) c (top rM) ∗ free (F := F) c (bot rM) ∗ free (F := F) c (qc dM) ∗ free (F := F) c (qd dM))
      ⊢ iprop((owing c (OR c 0) -∗ run c (k ⟨⟩) Q) -∗ run c (.op (.semSignal (Dev.tc n : Thread nD τ) barS (1#32 : BitVec 32).toNat) k) Q) := by
  subst hn
  unfold owing
  iintro ⟨#HR, ⟨%W, HO⟩, Ht, HF⟩ Hk
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () (OR c 0) rfl) $$ [HO Ht HF]
  · isplitr; · iapply (inv_at m K (nxt c) 0 _ csem_bar) $$ HR
    isplitl [HO]; · iexact HO
    isplitl [Ht]; · iexact Ht
    isplitl [HF]
    · rw [payload_bar_false]; unfold barPayF; rw [prv_nxt]; iexact HF
    · iapply (reached_at m K (nxt c) 0 _ csem_bar) $$ HR
  iintro HO
  iapply Hk
  iexists W; iexact HO

/-- The barrier's wait: both neighbours have signalled, and the buffers `c` sends into are its own to send into. -/
theorem run_barrier (c : Dev nD) {k : PUnit → Prog (TpuEff nD τ sig (Elt F) Λ₀ .tc) α} :
    iprop(records m K ∗ levAts L lv ∗ owing c (OR c 0) ∗ atPos ER (barCell c) 0 ∅ 0 ∗ cred (tallyAt (barCell c) () 2))
      ⊢ iprop((owing c (OR c 0) ∗ semVal (barCell c) 0 ∗ barPayF c ∗ barPayT c -∗ run c (k ⟨⟩) Q)
          -∗ run c (.op (.semWait barS (2#32 : BitVec 32).toNat) k) Q) := by
  unfold owing
  iintro ⟨#HR, #Hlev, ⟨%W, HO⟩, Hat, Hc⟩ Hk
  iapply (Rounds.wp_wait_rest_token 𝒱₀ ER (ringRd m) (c : Thread nD τ) none (κ := K (c, 0))
      (wpE_semWait_eq 𝒱₀ (c : Thread nD τ) none Set.univ) (Set.mem_univ _) () (O := OR c 0) (W := W) (R := 0) (m := 0) (T := ∅)
      (by rw [expect_bar]; decide)) $$ [Hc HO Hat]
  · isplitr; · iapply (inv_at m K c 0 _ csem_bar) $$ HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (ringRd m) (Set.mem_univ (K (c, 0))) (fun h => h) (R := 0 + 1) (duties_later m (barCell c))) $$ [Hat] with Hz
  · isplitr; · iapply (inv_at m K c 0 _ csem_bar) $$ HR
    iexact Hat
  iapply Hk
  isplitl [HO]; · iexists _; iexact HO
  isplitl [Hz]; · iexact Hz
  iexact Hp

/-! ## The transfers -/

/-- Send `i`: a piece of `c`'s at the share lent, to the piece of the neighbour's that `c` was handed. -/
theorem run_send (c n : Dev nD) (i : Fin 8) (hn : n = tgt i c) {s : Shape} (src dst : Memref sig .tc .vmem s .bf16)
    (q : PosShare TreeShare) (X : s.Idx → Elt F .bf16) (hN : dst.view.dmaCredit = amt i)
    (hs : sendPay m c i = hold c src q X) (hr : recvPay m (tgt i c) i = hold (tgt i c) dst fullShare X)
    {sS vS : DmaSem sig} (hsS : sS = sSem i) (hvS : vS = vSem i)
    {hsc : (dst : Memref sig (Dev.tc n : Thread nD τ).2.kind .vmem s .bf16).view.ref.isScScratch = false}
    {hsrc : src.view.WordExact} {hdst : dst.view.WordExact}
    {hsem : DmaTarget.Typed .vmem (.dma vS) (.remote (Dev.tc n : Thread nD τ) (dst : Memref sig (Dev.tc n : Thread nD τ).2.kind .vmem s .bf16) (.dma sS) hsc)}
    {k : PUnit → Prog (TpuEff nD τ sig (Elt F) Λ₀ .tc) α} :
    iprop(records m K ∗ hold c src q X ∗ free (F := F) (tgt i c) dst ∗ owing c (OR c i.val) ∗ snd c i)
      ⊢ iprop((owing c (OR c (i.val + 1)) ∗ snt c i -∗ run c (k ⟨⟩) Q)
          -∗ run c (.op (.enqueueDma src (.remote (Dev.tc n : Thread nD τ) dst (.dma sS) hsc) (.dma vS) hsrc hdst hsem) k) Q) := by
  subst hn hsS hvS
  unfold free hold owns owing snd snt
  iintro ⟨#HR, ⟨%fs, %hfs, Hsrc⟩, ⟨%X', %fd, -, Hdst⟩, ⟨%W, HO⟩, Hat, HtS, HtV⟩ Hk
  iapply (Rounds.wp_send_pointsTo 𝒱₀ ER (ringRd m) (c : Thread nD τ) none (κ₁ := K (c, sIx i)) (κ₂ := K (tgt i c, vIx i))
    (r₁ := 0) (r₂ := 0) (d₁ := false) (d₂ := false) (fd := fd)
    (by rw [duties_dma m c _ (sSem_range i)]; exact Finset.mem_singleton_self _)
    (by rw [duties_dma m (tgt i c) _ (vSem_range i)]; exact Finset.mem_singleton_self _)
    () () (amt i) (show dst.view.amount (.dma (vSem i)) = amt i from hN) ((amount_dma' m c _ false).trans (dmaAmt_send i)) ((amount_dma' m (tgt i c) _ false).trans (dmaAmt_recv i))
    (OR c (i.val + 1)) (OR_step c i) (W := W)
    (by rw [payload_send, hs]; unfold hold owns; iintro H; iexists fs; isplitr; (· ipureintro; exact hfs); iexact H)
    (by rw [payload_recv, hr]; unfold hold owns; iintro H; iexists (dst.view.write (Elt F) fd (src.view.read (Elt F) fs) Finset.univ); isplitr; (· ipureintro; rw [View.read_write_univ]; exact hfs); iexact H))
    $$ [Hsrc Hdst HO HtS HtV]
  · isplitr; · iapply (inv_at m K c (sIx i) _ (csem_send i)) $$ HR
    isplitr; · iapply (inv_at m K (tgt i c) (vIx i) _ (csem_recv i)) $$ HR
    isplitl [Hsrc]; · iexact Hsrc
    isplitl [Hdst]; · iexact Hdst
    isplitl [HO]; · iexact HO
    isplitl [HtS]; · iexact HtS
    isplitr; · iapply (reached_at m K c (sIx i) _ (csem_send i)) $$ HR
    isplitl [HtV]; · iexact HtV
    iapply (reached_at m K (tgt i c) (vIx i) _ (csem_recv i)) $$ HR
  iintro ⟨Hc, HO⟩
  iapply Hk
  isplitl [HO]; · iexists W; iexact HO
  isplitl [Hat] <;> iassumption

/-- The wait for a transfer on one of `c`'s scheduled cells: its payload, and the cell's counter at zero for good. -/
theorem run_wait (c : Dev nD) (kx : Fin 17) (q : DmaSem sig) (hk : csem kx = .dma q) (hq : 2 ≤ q.val ∧ q.val < 18) (O : CellTallies nD τ sig Unit)
    {sp sp' : Space} {s : Shape} {e : EltTy} {s' : Shape} {e' : EltTy} {src : Memref sig .tc sp' s' e'} {dst : Memref sig .tc sp s e}
    {hsrc : src.view.WordExact} {hdst : dst.view.WordExact} (hN : dst.view.dmaCredit = dmaAmt q)
    {k : PUnit → Prog (TpuEff nD τ sig (Elt F) Λ₀ .tc) α} :
    iprop(records m K ∗ MayWait (c : Thread nD τ) (.dma q) () O ∗ owing c O
        ∗ atPos ER ((c : Thread nD τ), SemLoc.dma q) 0 ∅ 0 ∗ cred (tallyAt ((c : Thread nD τ), SemLoc.dma q) () (dmaAmt q)))
      ⊢ iprop((owing c O ∗ semVal ((c : Thread nD τ), SemLoc.dma q) 0 ∗ (ringRd m).payload ((c : Thread nD τ), .dma q) 0 false -∗ run c (k ⟨⟩) Q)
          -∗ run c (.op (.waitDma2 q src dst hsrc hdst) k) Q) := by
  unfold owing
  iintro ⟨#HR, HM, ⟨%W, HO⟩, Hat, Hc⟩ Hk
  iapply (Rounds.wp_wait_rest_token 𝒱₀ ER (ringRd m) (c : Thread nD τ) none (κ := K (c, kx))
      (wpE_waitDma2_eq 𝒱₀ (c : Thread nD τ) none Set.univ) (Set.mem_univ _) () (O := O) (W := W) (R := 0) (m := 0) (T := ∅)
      (by rw [Nat.zero_add, hN, expect_dma m c q hq])) $$ [HM Hc HO Hat]
  · isplitr; · iapply (inv_at m K c kx _ hk) $$ HR
    isplitl [Hc]; · rw [hN]; iexact Hc
    isplitl [HO]; · iexact HO
    isplitl [HM]; · iexact HM
    iexact Hat
  iintro ⟨HO, Hat, -, Hpay⟩
  ihave Hp := (Entails.of_eq (rest_dma m c q hq)) $$ Hpay
  imod (Rounds.cell_close ER (ringRd m) (Set.mem_univ (K (c, kx))) (fun h => h) (R := 0 + 1) (duties_later m _)) $$ [Hat] with Hz
  · isplitr; · iapply (inv_at m K c kx _ hk) $$ HR
    iexact Hat
  iapply Hk
  isplitl [HO]; · iexists _; iexact HO
  isplitl [Hz]; · iexact Hz
  iexact Hp

/-- The wait for receive `i`, while `c` still owes the sends from `n` on. -/
theorem run_recv (c : Dev nD) (i : Fin 8) (n : ℕ) (hw : (levAts L lv : sProp 𝕄) ⊢ MayWait (c : Thread nD τ) (.dma (vSem i)) () (OR c n))
    {q : DmaSem sig} (hq : q = vSem i)
    {sp sp' : Space} {s : Shape} {e : EltTy} {s' : Shape} {e' : EltTy} {src : Memref sig .tc sp' s' e'} {dst : Memref sig .tc sp s e}
    {hsrc : src.view.WordExact} {hdst : dst.view.WordExact} (hN : dst.view.dmaCredit = amt i)
    (P : sProp 𝕄) (hP : recvPay m c i = P)
    {k : PUnit → Prog (TpuEff nD τ sig (Elt F) Λ₀ .tc) α} :
    iprop(records m K ∗ levAts L lv ∗ owing c (OR c n) ∗ rcv c i)
      ⊢ iprop((owing c (OR c n) ∗ semVal (vCell c i) 0 ∗ P -∗ run c (k ⟨⟩) Q)
          -∗ run c (.op (.waitDma2 q src dst hsrc hdst) k) Q) := by
  subst hq hP
  unfold rcv
  rw [← payload_recv m c i false, ← dmaAmt_recv]
  iintro ⟨#HR, #Hlev, HO, Hat, Hc⟩
  iapply (run_wait m K c (vIx i) (vSem i) (csem_recv i) (vSem_range i) (OR c n) (hN.trans (dmaAmt_recv i).symm))
  isplitr; · iexact HR
  isplitr; · iapply hw $$ Hlev
  isplitl [HO]; · iexact HO
  isplitl [Hat] <;> iassumption

/-- The wait for send `i`, which `c` makes owing nothing. -/
theorem run_sent (c : Dev nD) (i : Fin 8) {q : DmaSem sig} (hq : q = sSem i)
    {sp sp' : Space} {s : Shape} {e : EltTy} {s' : Shape} {e' : EltTy} {src : Memref sig .tc sp' s' e'} {dst : Memref sig .tc sp s e}
    {hsrc : src.view.WordExact} {hdst : dst.view.WordExact} (hN : dst.view.dmaCredit = amt i)
    (P : sProp 𝕄) (hP : sendPay m c i = P)
    {k : PUnit → Prog (TpuEff nD τ sig (Elt F) Λ₀ .tc) α} :
    iprop(records m K ∗ owing c 0 ∗ snt c i)
      ⊢ iprop((owing c 0 ∗ semVal (sCell c i) 0 ∗ P -∗ run c (k ⟨⟩) Q)
          -∗ run c (.op (.waitDma2 q src dst hsrc hdst) k) Q) := by
  subst hq hP
  unfold snt
  rw [← payload_send m c i false, ← dmaAmt_send]
  iintro ⟨#HR, HO, Hat, Hc⟩
  iapply (run_wait m K c (sIx i) (sSem i) (csem_send i) (sSem_range i) 0 (hN.trans (dmaAmt_send i).symm))
  isplitr; · iexact HR
  isplitr; · rw [MayWait_zero]; iempintro
  isplitl [HO]; · iexact HO
  isplitl [Hat] <;> iassumption

/-! ## The copies to the result -/

/-- Copy `p` under way, from `src` holding `X` to `dst`. -/
def flying (c : Dev nD) (p : Fin 10) {sp sp' : Space} {s : Shape} (N : ℕ) (src : Memref sig .tc sp s .f32) (dst : Memref sig .tc sp' s .f32)
    (X : s.Idx → Elt F .f32) : sProp 𝕄 :=
  Flight EC (c : Thread nD τ) (.dma (cSem p)) () N iprop(hold c dst fullShare X ∗ hold c src fullShare X)

/-- What a copy delivers: the destination reads what the source read. -/
theorem landed (c : Dev nD) {sp sp' : Space} {s : Shape} (src : Memref sig .tc sp s .f32) (dst : Memref sig .tc sp' s .f32)
    (fs : Buf (Elt F) (src.view.loc (c : Thread nD τ))) (fd : Buf (Elt F) (dst.view.loc (c : Thread nD τ))) (X : s.Idx → Elt F .f32)
    (hfs : src.view.read (Elt F) fs = X) :
    iprop((dst.view.loc (c : Thread nD τ) ↦[dst.view.set]{fullShare} dst.view.write (Elt F) fd (ReadAs.same.apply (src.view.read (Elt F) fs)) Finset.univ)
        ∗ (src.view.loc (c : Thread nD τ) ↦[src.view.set]{fullShare} fs))
      ⊢ (iprop(hold c dst fullShare X ∗ hold c src fullShare X) : sProp 𝕄) := by
  unfold hold owns
  iintro ⟨Hd, Hs⟩
  isplitl [Hd]
  · iexists (dst.view.write (Elt F) fd (src.view.read (Elt F) fs) Finset.univ)
    isplitr
    · ipureintro
      rw [View.read_write_univ]; exact hfs
    iexact Hd
  · iexists fs; isplitr; · (ipureintro; exact hfs)
    iexact Hs

theorem run_copy (c : Dev nD) (p : Fin 10) {sp sp' : Space} {s : Shape} (N : ℕ) (hN0 : 0 < N)
    (src : Memref sig .tc sp s .f32) (dst : Memref sig .tc sp' s .f32) (hN : dst.view.dmaCredit = N)
    (X : s.Idx → Elt F .f32) {q : DmaSem sig} (hq : q = cSem p)
    {hsrc : src.view.WordExact} {hdst : dst.view.WordExact} {hsem : DmaTarget.Typed (nD := nD) sp (.dma q) (.here dst : DmaTarget nD τ sig .tc sp' s .f32)}
    {k : PUnit → Prog (TpuEff nD τ sig (Elt F) Λ₀ .tc) α} :
    iprop(hold c src fullShare X ∗ free (F := F) c dst ∗ semVal ((c : Thread nD τ), .dma (cSem p)) 0)
      ⊢ iprop((flying c p N src dst X -∗ run c (k ⟨⟩) Q)
          -∗ run c (.op (.enqueueDma src (.here dst) (.dma q) hsrc hdst hsem) k) Q) := by
  subst hq
  unfold free hold owns
  iintro ⟨⟨%fs, %hfs, Hsrc⟩, ⟨%X', %fd, -, Hdst⟩, Hz⟩ Hk
  iapply (wp_dmaLocal EC 𝒱₀ (c : Thread nD τ) none () N (show dst.view.amount (.dma (cSem p)) = N from hN) hN0 (Finset.Subset.refl _)) $$ [Hsrc Hdst Hz]
  · isplitl [Hsrc]; · iexact Hsrc
    isplitl [Hdst]; · iexact Hdst
    iexact Hz
  iintro Hf
  iapply Hk
  unfold flying
  iapply (Flight_mono EC (c : Thread nD τ) (landed c src dst fs fd X hfs)) $$ Hf

theorem run_copied (c : Dev nD) (p : Fin 10) {sp sp' : Space} {s : Shape} (N : ℕ)
    (src : Memref sig .tc sp s .f32) (dst : Memref sig .tc sp' s .f32) (hN : dst.view.dmaCredit = N)
    (X : s.Idx → Elt F .f32) {q : DmaSem sig} (hq : q = cSem p) {hsrc : src.view.WordExact} {hdst : dst.view.WordExact}
    {k : PUnit → Prog (TpuEff nD τ sig (Elt F) Λ₀ .tc) α} :
    iprop(flying c p N src dst X ∗ owing c 0)
      ⊢ iprop((owing c 0 ∗ hold c dst fullShare X ∗ hold c src fullShare X ∗ semVal ((c : Thread nD τ), .dma (cSem p)) 0 -∗ run c (k ⟨⟩) Q)
          -∗ run c (.op (.waitDma2 q src dst hsrc hdst) k) Q) := by
  subst hq
  unfold flying owing
  iintro ⟨Hf, ⟨%W, HO⟩⟩ Hk
  iapply (wp_waitLocal EC 𝒱₀ (c : Thread nD τ) none () hN) $$ [Hf HO]
  · isplitl [Hf] <;> iassumption
  iintro ⟨⟨Hd, Hs⟩, Hz, HO⟩
  iapply Hk
  isplitl [HO]; · iexists _; iexact HO
  isplitl [Hd]; · iexact Hd
  isplitl [Hs] <;> iassumption

/-! ## A block and its copy -/

/-- What a copy to the result's rows is worth. -/
abbrev CH : ℕ := (o0).view.dmaCredit
abbrev CQ : ℕ := (o6).view.dmaCredit
theorem CH_pos : 0 < CH := View.dmaCredit_pos _ (by decide)
theorem CQ_pos : 0 < CQ := View.dmaCredit_pos _ (by decide)

/-- A copy's semaphore at zero, and the two transfers' once waited for. -/
abbrev idle (c : Dev nD) (p : Fin 10) : sProp 𝕄 := semVal ((c : Thread nD τ), SemLoc.dma (cSem p)) 0
abbrev doneR (c : Dev nD) (i : Fin 8) : sProp 𝕄 := semVal (vCell c i) 0
abbrev doneS (c : Dev nD) (i : Fin 8) : sProp 𝕄 := semVal (sCell c i) 0

/-- What a block's product and its copy need: the accumulator's piece, the result's rows, and the copy's semaphore. -/
def spot (c : Dev nD) (p : Fin 10) {sp sp' : Space} {s : Shape} (o : Memref sig .tc sp s .f32) (w : Memref sig .tc sp' s .f32) : sProp 𝕄 :=
  iprop(free (F := F) c o ∗ free (F := F) c w ∗ idle c p)
theorem spot_open (c : Dev nD) (p : Fin 10) {sp sp' : Space} {s : Shape} (o : Memref sig .tc sp s .f32) (w : Memref sig .tc sp' s .f32) :
    spot (F := F) c p o w ⊢ (iprop(free (F := F) c o ∗ free (F := F) c w ∗ idle c p) : sProp 𝕄) := by unfold spot; exact BI.BIBase.Entails.rfl
/-- And what the copy leaves: the result's rows hold the product. -/
def back (c : Dev nD) (p : Fin 10) {sp sp' : Space} {s : Shape} (o : Memref sig .tc sp s .f32) (w : Memref sig .tc sp' s .f32)
    (z : s.Idx → Elt F .f32) : sProp 𝕄 :=
  iprop(hold c w fullShare z ∗ free (F := F) c o ∗ idle c p)

/-- A BLOCK COPIED OUT: its product is formed in the accumulator and its copy to the result's rows started. -/
theorem run_block_copy (c : Dev nD) (p : Fin 10) (N : ℕ) (hN0 : 0 < N) (M : Memref sig .tc .vmem S1024x512 .bf16) (r : Rect S1024x512)
    (hr : ∀ a, r.stride a = 1) (q : PosShare TreeShare) (X : r.shape.Idx → Elt F .bf16)
    (ro : Rect S4x1024x1024) (hro : ∀ a, ro.stride a = 1) {s : Shape} (hs : ro.shape.Squeezes s)
    (pay : (r.shape.Idx → Elt F .bf16) → (rb.shape.Idx → Elt F .bf16) → ro.shape.Idx → Elt F .f32) (z : s.Idx → Elt F .f32)
    (hc : ro.shape.ShapeCasts s) (hz : shapeCast s (pay X (bbf m c)) hc = z) {sp' : Space}
    (w : Memref sig .tc sp' s .f32) (hN : w.view.dmaCredit = N) {qs : DmaSem sig} (hq : qs = cSem p)
    {h : M.view.LoadsAt r.toLoadRect} {hb : bM.view.LoadsAt rb.toLoadRect} {ho : oM.view.LoadsAt ro.toLoadRect}
    {hx : (oM.access ro).Stores Finset.univ} {hm : (Finset.univ : Finset ro.shape.Idx) = Finset.univ ∨ ∀ a, ro.stride a = 1}
    {hsrc : ((oM.slice ro hro).squeeze s hs).view.WordExact} {hdst : w.view.WordExact}
    {hsem : DmaTarget.Typed (nD := nD) .vmem (.dma qs) (.here w : DmaTarget nD τ sig .tc sp' s .f32)}
    {k : PUnit → Prog (TpuEff nD τ sig (Elt F) Λ₀ .tc) α} :
    iprop(hold c (M.slice r hr) q X ∗ hold c bM fullShare (bbf m c) ∗ spot (F := F) c p ((oM.slice ro hro).squeeze s hs) w)
      ⊢ iprop((hold c (M.slice r hr) q X ∗ hold c bM fullShare (bbf m c) ∗ flying c p N ((oM.slice ro hro).squeeze s hs) w z -∗ run c (k ⟨⟩) Q)
          -∗ run c (.op (.load M r.toLoadRect h) fun x => .op (.load bM rb.toLoadRect hb) fun y => .op (.load oM ro.toLoadRect ho) fun _ =>
                .op (.store oM ro (pay x y) Finset.univ hx hm) fun _ =>
                .op (.enqueueDma ((oM.slice ro hro).squeeze s hs) (.here w) (.dma qs) hsrc hdst hsem) k) Q) := by
  unfold spot
  iintro ⟨HM, Hb, Ho, Hw, Hi⟩ Hk
  iapply (run_block m c M r hr q X ro hro hs pay z hc hz) $$ [HM Hb Ho]
  · isplitl [HM]; · iexact HM
    isplitl [Hb] <;> iassumption
  iintro ⟨HM, Hb, Ho⟩
  iapply (run_copy c p N hN0 ((oM.slice ro hro).squeeze s hs) w hN z hq) $$ [Ho Hw Hi]
  · isplitl [Ho]; · iexact Ho
    isplitl [Hw] <;> iassumption
  iintro Hf
  iapply Hk
  isplitl [HM]; · iexact HM
  isplitl [Hb] <;> iassumption

/-- The wait for a copy. -/
theorem run_back (c : Dev nD) (p : Fin 10) {sp sp' : Space} {s : Shape} (N : ℕ)
    (src : Memref sig .tc sp s .f32) (dst : Memref sig .tc sp' s .f32) (hN : dst.view.dmaCredit = N)
    (X : s.Idx → Elt F .f32) {q : DmaSem sig} (hq : q = cSem p) {hsrc : src.view.WordExact} {hdst : dst.view.WordExact}
    {k : PUnit → Prog (TpuEff nD τ sig (Elt F) Λ₀ .tc) α} :
    iprop(flying c p N src dst X ∗ owing c 0)
      ⊢ iprop((owing c 0 ∗ back c p src dst X -∗ run c (k ⟨⟩) Q) -∗ run c (.op (.waitDma2 q src dst hsrc hdst) k) Q) := by
  iintro HP Hk
  iapply (run_copied c p N src dst hN X hq) $$ HP
  iintro ⟨HO, Hw, Ho, Hi⟩
  iapply Hk
  isplitl [HO]; · iexact HO
  unfold back
  isplitl [Hw]; · iexact Hw
  isplitl [Ho]; · iapply (free_intro c src X) $$ Ho
  iexact Hi

/-- The last four transfers are waited for when nothing is owed. -/
theorem mayWait_last (c : Dev nD) (s : SemLoc sig) : (levAts L lv : sProp 𝕄) ⊢ MayWait (c : Thread nD τ) s () (OR c 8) := by
  rw [OR_8, MayWait_zero]; iintro -; iempintro

end Cert.RingProof

end
-- ==== Proof.Pieces.lean ====
/-
# Buffers and their pieces

A row buffer is its two halves, and a half its two quarters; the accumulator is its ten pieces; the result is the ten row
blocks the copies write.
-/
module

public import proofs.«01_k».proof.Proof.Ops
public import Idealize.ShloMosaic.Lib.Ring

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

theorem some_of {β : Type} (P : β → sProp 𝕄) (f : β) : P f ⊢ iprop(∃ f, P f) := by iintro H; iexists f; iexact H

theorem eq_of {P P' : sProp 𝕄} (h : P ⊢ P') (h' : P' ⊢ P) : P = P' := BI.equiv_iff.mp ⟨h, h'⟩

/-- A rectangle of whole rows of a row buffer: its elements are those of its rows. -/
theorem mem_rows {lo n : ℕ} {sz : Fin 2 → ℕ} (h0 : sz 0 = n) (h1 : sz 1 = 512) {inb : ∀ a, (![lo, 0] : Fin 2 → ℕ) a + sz a ≤ S1024x512.size a} (i : S1024x512.Idx) :
    i ∈ (Rect.unit (s := S1024x512) ![lo, 0] sz inb).set ↔ lo ≤ (i 0).val ∧ (i 0).val < lo + n := by
  rw [Rect.mem_set_unit]
  have h := (i 1).isLt
  constructor
  · intro H; have := H 0; rw [h0] at this; exact this
  · intro H a
    fin_cases a
    · show _ ∧ _ < lo + sz 0; rw [h0]; exact H
    · show 0 ≤ _ ∧ _ < 0 + sz 1; rw [h1]; exact ⟨Nat.zero_le _, by simpa using h⟩

theorem mem_T (i : S1024x512.Idx) : i ∈ rT.set ↔ 0 ≤ (i 0).val ∧ (i 0).val < 0 + 512 := mem_rows rfl rfl i
theorem mem_B (i : S1024x512.Idx) : i ∈ rB.set ↔ 512 ≤ (i 0).val ∧ (i 0).val < 512 + 512 := mem_rows rfl rfl i
theorem mem_Q0 (i : S1024x512.Idx) : i ∈ rQ0.set ↔ 0 ≤ (i 0).val ∧ (i 0).val < 0 + 256 := mem_rows rfl rfl i
theorem mem_Q1 (i : S1024x512.Idx) : i ∈ rQ1.set ↔ 256 ≤ (i 0).val ∧ (i 0).val < 256 + 256 := mem_rows rfl rfl i
theorem mem_Q2 (i : S1024x512.Idx) : i ∈ rQ2.set ↔ 512 ≤ (i 0).val ∧ (i 0).val < 512 + 256 := mem_rows rfl rfl i
theorem mem_Q3 (i : S1024x512.Idx) : i ∈ rQ3.set ↔ 768 ≤ (i 0).val ∧ (i 0).val < 768 + 256 := mem_rows rfl rfl i

theorem TB_union : (Finset.univ : Finset S1024x512.Idx) = rT.set ∪ rB.set := by
  ext i; have h : (i 0).val < 1024 := (i 0).isLt
  simp only [Finset.mem_univ, Finset.mem_union, mem_T, mem_B, true_iff]; omega
theorem T_union : rT.set = rQ0.set ∪ rQ1.set := by
  ext i; simp only [Finset.mem_union, mem_T, mem_Q0, mem_Q1]; omega
theorem B_union : rB.set = rQ2.set ∪ rQ3.set := by
  ext i; simp only [Finset.mem_union, mem_B, mem_Q2, mem_Q3]; omega
theorem TB_disj : Disjoint rT.set rB.set := Finset.disjoint_left.mpr fun i h h' => by rw [mem_T] at h; rw [mem_B] at h'; omega
theorem T_disj : Disjoint rQ0.set rQ1.set := Finset.disjoint_left.mpr fun i h h' => by rw [mem_Q0] at h; rw [mem_Q1] at h'; omega
theorem B_disj : Disjoint rQ2.set rQ3.set := Finset.disjoint_left.mpr fun i h h' => by rw [mem_Q2] at h; rw [mem_Q3] at h'; omega

/-! ## A row buffer in halves and quarters -/

section Rows
variable (c : Dev nD) (M : Memref sig .tc .vmem S1024x512 .bf16) (q : PosShare TreeShare) (X : S1024x512.Idx → Elt F .bf16)

include m in
/-- A rectangle cut in two. -/
theorem hold_two (r r₁ r₂ : Rect S1024x512) (hr : ∀ a, r.stride a = 1) (hr₁ : ∀ a, r₁.stride a = 1) (hr₂ : ∀ a, r₂.stride a = 1)
    (hu : r.set = r₁.set ∪ r₂.set) (hd : Disjoint r₁.set r₂.set) :
    (hold c (M.slice r hr) q (cut r X) : sProp 𝕄) = iprop(hold c (M.slice r₁ hr₁) q (cut r₁ X) ∗ hold c (M.slice r₂ hr₂) q (cut r₂ X)) := by
  obtain ⟨g, hg⟩ : ∃ g, M.view.read (Elt F) g = X := ⟨M.view.write (Elt F) (m (M.view.loc (c : Thread nD τ))) X Finset.univ, View.read_write_univ _ _⟩
  subst hg
  have h (r : Rect S1024x512) (hr : ∀ a, r.stride a = 1) : (hold c (M.slice r hr) q (cut r (M.view.read (Elt F) g)) : sProp 𝕄)
      = (M.view.loc (c : Thread nD τ) ↦[(M.view.slice r).set]{q} g) := owns_slice_read (c : Thread nD τ) M q r hr g
  rw [h, h, h, View.set_slice, View.set_slice, View.set_slice, hu, Finset.map_union]
  have hp := pointsTo_union (nD := nD) (τ := τ) (sig := sig) (Ix := Unit) (Val := Elt F) (Name := ℕ) (U := UU) (Lvl := ℕ) (ℓ := M.view.loc (c : Thread nD τ)) (q := q) (f := g) ((Finset.disjoint_map M.view.emb).mpr hd)
  exact eq_of hp.1 hp.2

/-- The whole in its two halves. -/
theorem hold_TB : (hold c M q X : sProp 𝕄) = iprop(hold c (top M) q (cut rT X) ∗ hold c (bot M) q (cut rB X)) := by
  have h := owns_rects (Ix := Unit) (Name := ℕ) (U := UU) (Lvl := ℕ) (c : Thread nD τ) M q (T := Fin 2) ![rT, rB] (by intro t; fin_cases t <;> exact fun _ => rfl)
    (by intro t t' htt'; fin_cases t <;> fin_cases t'
        · exact absurd rfl htt'
        · exact TB_disj
        · exact TB_disj.symm
        · exact absurd rfl htt')
    (by rw [TB_union]; ext i; simp [Finset.mem_biUnion, Fin.exists_fin_two]) X
  have h' := owns_of_rects (Ix := Unit) (Name := ℕ) (U := UU) (Lvl := ℕ) (c : Thread nD τ) M q (T := Fin 2) ![rT, rB] (by intro t; fin_cases t <;> exact fun _ => rfl)
    (by intro t t' htt'; fin_cases t <;> fin_cases t'
        · exact absurd rfl htt'
        · exact TB_disj
        · exact TB_disj.symm
        · exact absurd rfl htt')
    (by rw [TB_union]; ext i; simp [Finset.mem_biUnion, Fin.exists_fin_two]) X
  have e := bigSep_univ_eq_bigSepL [(0 : Fin 2), 1] (by decide) (by decide) (fun t => (owns (c : Thread nD τ) (M.slice (![rT, rB] t) (by fin_cases t <;> exact fun _ => rfl)) q (fun j => X ((![rT, rB] t).emb j)) : sProp 𝕄))
  exact eq_of (h.trans (BI.BIBase.Entails.of_eq e)) ((BI.BIBase.Entails.of_eq e.symm).trans h')

include m in
theorem hold_T : (hold c (top M) q (cut rT X) : sProp 𝕄) = iprop(hold c (qa M) q (cut rQ0 X) ∗ hold c (qb M) q (cut rQ1 X)) :=
  hold_two m c M q X rT rQ0 rQ1 _ _ _ T_union T_disj
include m in
theorem hold_B : (hold c (bot M) q (cut rB X) : sProp 𝕄) = iprop(hold c (qc M) q (cut rQ2 X) ∗ hold c (qd M) q (cut rQ3 X)) :=
  hold_two m c M q X rB rQ2 rQ3 _ _ _ B_union B_disj

theorem share_join (ℓ : Loc nD τ sig) (S : Finset (Idx ℓ)) (q : PosShare TreeShare) (f : Buf (Elt F) ℓ) :
    iprop((ℓ ↦[S]{q.left} f) ∗ (ℓ ↦[S]{q.right} f)) ⊢ (ℓ ↦[S]{q} f : sProp 𝕄) :=
  (pointsTo_share (PosShare.mem_left_op_right q)).2

/-- The two halves of a share put together again. -/
theorem hold_join {sp : Space} {s : Shape} {e : EltTy} (N : Memref sig .tc sp s e) (Y : s.Idx → Elt F e) :
    iprop(hold c N q.left Y ∗ hold c N q.right Y) ⊢ (hold c N q Y : sProp 𝕄) := by
  unfold hold owns
  iintro ⟨⟨%f, %hf, H⟩, ⟨%f', %hf', H'⟩⟩
  iexists f; isplitr; · (ipureintro; exact hf)
  have e : (N.view.loc (c : Thread nD τ) ↦[N.view.set]{q.right} f' : sProp 𝕄) = (N.view.loc (c : Thread nD τ) ↦[N.view.set]{q.right} f) :=
    pointsTo_congr fun i hi => by
      rw [View.set, Finset.mem_map] at hi
      obtain ⟨j, -, rfl⟩ := hi
      have h := congrFun (hf'.trans hf.symm) j
      rw [View.read_apply, View.read_apply] at h
      exact (cast_bijective _).1 h
  ihave H' := (BI.BIBase.Entails.of_eq e) $$ H'
  iapply (share_join (N.view.loc (c : Thread nD τ)) N.view.set q f)
  isplitl [H] <;> iassumption

end Rows

/-! ## The accumulator and the result -/

/-- The elements of the accumulator's ten pieces, and of the result's ten row blocks. -/
def accSet (p : Fin 10) : Finset S4x1024x1024.Idx :=
  match p with
  | 0 => rO0.set
  | 1 => rO1.set
  | 2 => rO2.set
  | 3 => rO3.set
  | 4 => rO4.set
  | 5 => rO5.set
  | 6 => rO6.set
  | 7 => rO7.set
  | 8 => rO8.set
  | 9 => rO9.set
def rowSet (c : Dev nD) (p : Fin 10) : Finset S4096x1024.Idx :=
  match p with
  | 0 => (rW0 c).set
  | 1 => (rW1 c).set
  | 2 => (rW2 c).set
  | 3 => (rW3 c).set
  | 4 => (rW4 c).set
  | 5 => (rW5 c).set
  | 6 => (rW6 c).set
  | 7 => (rW7 c).set
  | 8 => (rW8 c).set
  | 9 => (rW9 c).set

/-- A piece's slot, first row and number of rows; and a row block's device and first row within the device's rows. -/
def pSlot : Fin 10 → ℕ := ![0, 0, 1, 2, 1, 2, 3, 3, 3, 3]
def pRow : Fin 10 → ℕ := ![0, 512, 0, 512, 512, 0, 0, 256, 512, 768]
def pLen : Fin 10 → ℕ := ![512, 512, 512, 512, 512, 512, 256, 256, 256, 256]
def pDev (c : Dev nD) : Fin 10 → ℕ := ![c.val, c.val, (prv c).val, (nxt c).val, (prv c).val, (nxt c).val, (opp c).val, (opp c).val, (opp c).val, (opp c).val]

theorem mem_acc_unit {a b n : ℕ} {sz : Fin 3 → ℕ} (h0 : sz 0 = 1) (h1 : sz 1 = n) (h2 : sz 2 = 1024)
    {inb : ∀ k, (![a, b, 0] : Fin 3 → ℕ) k + sz k ≤ S4x1024x1024.size k} (i : S4x1024x1024.Idx) :
    i ∈ (Rect.unit (s := S4x1024x1024) ![a, b, 0] sz inb).set ↔ (i 0).val = a ∧ b ≤ (i 1).val ∧ (i 1).val < b + n := by
  rw [Rect.mem_set_unit]
  have h := (i 2).isLt
  constructor
  · intro H
    have hA := H 0; have hB := H 1; rw [h0] at hA; rw [h1] at hB
    have hA1 : a ≤ (i 0).val := hA.1
    have hA2 : (i 0).val < a + 1 := hA.2
    exact ⟨by omega, hB⟩
  · intro H k
    fin_cases k
    · show a ≤ (i 0).val ∧ (i 0).val < a + sz 0; rw [h0]; omega
    · show b ≤ (i 1).val ∧ (i 1).val < b + sz 1; rw [h1]; exact H.2
    · show 0 ≤ (i 2).val ∧ (i 2).val < 0 + sz 2; rw [h2]; exact ⟨Nat.zero_le _, by simpa using h⟩

theorem mem_acc (p : Fin 10) (i : S4x1024x1024.Idx) : i ∈ accSet p ↔ (i 0).val = pSlot p ∧ pRow p ≤ (i 1).val ∧ (i 1).val < pRow p + pLen p := by
  fin_cases p <;> exact mem_acc_unit rfl rfl rfl i

theorem mem_row_unit {lo n : ℕ} {off sz : Fin 2 → ℕ} (ho : off = ![lo, 0]) (h0 : sz 0 = n) (h1 : sz 1 = 1024) {inb : ∀ a, off a + sz a ≤ S4096x1024.size a} (i : S4096x1024.Idx) :
    i ∈ (Rect.unit (s := S4096x1024) off sz inb).set ↔ lo ≤ (i 0).val ∧ (i 0).val < lo + n := by
  subst ho
  rw [Rect.mem_set_unit]
  have h := (i 1).isLt
  constructor
  · intro H; have := H 0; rw [h0] at this; exact this
  · intro H a
    fin_cases a
    · show _ ∧ _ < lo + sz 0; rw [h0]; exact H
    · show 0 ≤ _ ∧ _ < 0 + sz 1; rw [h1]; exact ⟨Nat.zero_le _, by simpa using h⟩

theorem mem_row (c : Dev nD) (p : Fin 10) (i : S4096x1024.Idx) :
    i ∈ rowSet c p ↔ 1024 * pDev c p + pRow p ≤ (i 0).val ∧ (i 0).val < 1024 * pDev c p + pRow p + pLen p := by
  fin_cases p
  · exact mem_row_unit (off1_eq c 0) rfl rfl i
  · exact mem_row_unit (off1_eq c 1) rfl rfl i
  · exact mem_row_unit (off2_eq c 0) rfl rfl i
  · exact mem_row_unit (off3_eq c 1) rfl rfl i
  · exact mem_row_unit (off2_eq c 1) rfl rfl i
  · exact mem_row_unit (off3_eq c 0) rfl rfl i
  · exact mem_row_unit (off4_eq c 0) rfl rfl i
  · exact mem_row_unit (off4_eq c 1) rfl rfl i
  · exact mem_row_unit (off4_eq c 2) rfl rfl i
  · exact mem_row_unit (off4_eq c 3) rfl rfl i

theorem tab_acc : ∀ p p' : Fin 10, p ≠ p' → pSlot p ≠ pSlot p' ∨ pRow p + pLen p ≤ pRow p' ∨ pRow p' + pLen p' ≤ pRow p := by decide +kernel
theorem tab_row : ∀ (c : Dev nD) (p p' : Fin 10), p ≠ p' → 1024 * pDev c p + pRow p + pLen p ≤ 1024 * pDev c p' + pRow p'
    ∨ 1024 * pDev c p' + pRow p' + pLen p' ≤ 1024 * pDev c p + pRow p := by decide +kernel
/-- Every quarter of every slot (of every device's rows) lies within one piece (one row block). -/
theorem tab_acc_cov : ∀ a k : Fin 4, ∃ p : Fin 10, pSlot p = a.val ∧ pRow p ≤ 256 * k.val ∧ 256 * k.val + 256 ≤ pRow p + pLen p := by decide +kernel
theorem tab_row_cov : ∀ (c : Dev nD) (k : Fin 16), ∃ p : Fin 10, 1024 * pDev c p + pRow p ≤ 256 * k.val ∧ 256 * k.val + 256 ≤ 1024 * pDev c p + pRow p + pLen p := by decide +kernel

theorem acc_disj (p p' : Fin 10) (h : p ≠ p') : Disjoint (accSet p) (accSet p') :=
  Finset.disjoint_left.mpr fun i hi hi' => by
    rw [mem_acc] at hi hi'; have := tab_acc p p' h; omega
theorem row_disj (c : Dev nD) (p p' : Fin 10) (h : p ≠ p') : Disjoint (rowSet c p) (rowSet c p') :=
  Finset.disjoint_left.mpr fun i hi hi' => by
    rw [mem_row] at hi hi'; have := tab_row c p p' h; omega
theorem acc_cov : Finset.univ.biUnion accSet = Finset.univ := by
  ext i
  simp only [Finset.mem_biUnion, Finset.mem_univ, true_and, iff_true]
  have h0 : (i 0).val < 4 := (i 0).isLt
  have h1 : (i 1).val < 1024 := (i 1).isLt
  obtain ⟨p, hp, hlo, hhi⟩ := tab_acc_cov ⟨(i 0).val, h0⟩ ⟨(i 1).val / 256, by omega⟩
  refine ⟨p, (mem_acc p i).mpr ?_⟩
  dsimp only at hp hlo hhi; omega
theorem row_cov (c : Dev nD) (i : S4096x1024.Idx) : ∃ p, i ∈ rowSet c p := by
  have h1 : (i 0).val < 4096 := (i 0).isLt
  obtain ⟨p, hlo, hhi⟩ := tab_row_cov c ⟨(i 0).val / 256, by omega⟩
  refine ⟨p, (mem_row c p i).mpr ?_⟩
  dsimp only at hlo hhi; omega
theorem row_cov' (c : Dev nD) : Finset.univ.biUnion (rowSet c) = Finset.univ := by
  ext i
  simp only [Finset.mem_biUnion, Finset.mem_univ, true_and, iff_true]
  exact row_cov c i

/-- Ten of a thing, one by one. -/
theorem ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide)]; rfl

theorem acc_free (c : Dev nD) (r : Rect S4x1024x1024) (hr : ∀ a, r.stride a = 1) {s : Shape} (hs : r.shape.Squeezes s) :
    (free (F := F) c ((oM.slice r hr).squeeze s hs) : sProp 𝕄) = iprop(∃ f, (c : Thread nD τ).loc cc0_scratch5 ↦[r.set]{fullShare} f) := by
  have hset : ((oM.slice r hr).squeeze s hs).view.set = r.set := (View.set_reshape _ _).trans (View.set_slice_whole cc0_scratch5 r)
  unfold free hold owns
  rw [hset]
  refine eq_of ?_ ?_
  · iintro ⟨%X, %f, -, H⟩; iexists f; iexact H
  · iintro ⟨%f, H⟩; iexists _, f; isplitr; · (ipureintro; rfl)
    iexact H

/-- A result's row block holds `z`. -/
def RowsAre (r : Rect S4096x1024) (g : S4096x1024.Idx → Elt F .f32) (z : r.shape.Idx → Elt F .f32) : Prop := (fun j => g (r.emb j)) = z

theorem row_hold (c : Dev nD) (r : Rect S4096x1024) (hr : ∀ a, r.stride a = 1) (z : r.shape.Idx → Elt F .f32) :
    (hold c (vM.slice r hr) fullShare z : sProp 𝕄)
      = iprop(∃ f, ⌜RowsAre r f z⌝ ∗ ((c : Thread nD τ).loc main_v1 ↦[r.set]{fullShare} f)) := by
  have hset : (vM.slice r hr).view.set = r.set := View.set_slice_whole main_v1 r
  unfold hold owns
  rw [hset]
  rfl

/-- THE ACCUMULATOR is its ten pieces. -/
theorem acc_split (c : Dev nD) (f : Buf (Elt F) ((c : Thread nD τ).loc cc0_scratch5)) :
    ((c : Thread nD τ).loc cc0_scratch5 ↦{fullShare} f) ⊢ (iprop(free (F := F) c o0 ∗ free (F := F) c o1 ∗ free (F := F) c o2 ∗ free (F := F) c o3 ∗ free (F := F) c o4 ∗ free (F := F) c o5 ∗ free (F := F) c o6 ∗ free (F := F) c o7 ∗ free (F := F) c o8 ∗ free (F := F) c o9) : sProp 𝕄) := by
  rw [Ring.pointsTo_blocks accSet acc_disj acc_cov f]
  have e0 : (free (F := F) c o0 : sProp 𝕄) = _ := acc_free c rO0 (fun _ => rfl) squeezes_S1x512x1024_S512x1024
  have e1 : (free (F := F) c o1 : sProp 𝕄) = _ := acc_free c rO1 (fun _ => rfl) squeezes_S1x512x1024_S512x1024
  have e2 : (free (F := F) c o2 : sProp 𝕄) = _ := acc_free c rO2 (fun _ => rfl) squeezes_S1x512x1024_S512x1024
  have e3 : (free (F := F) c o3 : sProp 𝕄) = _ := acc_free c rO3 (fun _ => rfl) squeezes_S1x512x1024_S512x1024
  have e4 : (free (F := F) c o4 : sProp 𝕄) = _ := acc_free c rO4 (fun _ => rfl) squeezes_S1x512x1024_S512x1024
  have e5 : (free (F := F) c o5 : sProp 𝕄) = _ := acc_free c rO5 (fun _ => rfl) squeezes_S1x512x1024_S512x1024
  have e6 : (free (F := F) c o6 : sProp 𝕄) = _ := acc_free c rO6 (fun _ => rfl) squeezes_S1x256x1024_S256x1024
  have e7 : (free (F := F) c o7 : sProp 𝕄) = _ := acc_free c rO7 (fun _ => rfl) squeezes_S1x256x1024_S256x1024
  have e8 : (free (F := F) c o8 : sProp 𝕄) = _ := acc_free c rO8 (fun _ => rfl) squeezes_S1x256x1024_S256x1024
  have e9 : (free (F := F) c o9 : sProp 𝕄) = _ := acc_free c rO9 (fun _ => rfl) squeezes_S1x256x1024_S256x1024
  rw [e0, e1, e2, e3, e4, e5, e6, e7, e8, e9]
  refine (bigSep_mono (Ψ := fun p => iprop(∃ f, (c : Thread nD τ).loc cc0_scratch5 ↦[accSet p]{fullShare} f)) fun p _ => ?_).trans (BI.BIBase.Entails.of_eq (ten _))
  exact some_of _ f
include m in
theorem acc_join (c : Dev nD) :
    (iprop(free (F := F) c o0 ∗ free (F := F) c o1 ∗ free (F := F) c o2 ∗ free (F := F) c o3 ∗ free (F := F) c o4 ∗ free (F := F) c o5 ∗ free (F := F) c o6 ∗ free (F := F) c o7 ∗ free (F := F) c o8 ∗ free (F := F) c o9) : sProp 𝕄) ⊢ iprop(∃ f, (c : Thread nD τ).loc cc0_scratch5 ↦{fullShare} f) := by
  have e0 : (free (F := F) c o0 : sProp 𝕄) = _ := acc_free c rO0 (fun _ => rfl) squeezes_S1x512x1024_S512x1024
  have e1 : (free (F := F) c o1 : sProp 𝕄) = _ := acc_free c rO1 (fun _ => rfl) squeezes_S1x512x1024_S512x1024
  have e2 : (free (F := F) c o2 : sProp 𝕄) = _ := acc_free c rO2 (fun _ => rfl) squeezes_S1x512x1024_S512x1024
  have e3 : (free (F := F) c o3 : sProp 𝕄) = _ := acc_free c rO3 (fun _ => rfl) squeezes_S1x512x1024_S512x1024
  have e4 : (free (F := F) c o4 : sProp 𝕄) = _ := acc_free c rO4 (fun _ => rfl) squeezes_S1x512x1024_S512x1024
  have e5 : (free (F := F) c o5 : sProp 𝕄) = _ := acc_free c rO5 (fun _ => rfl) squeezes_S1x512x1024_S512x1024
  have e6 : (free (F := F) c o6 : sProp 𝕄) = _ := acc_free c rO6 (fun _ => rfl) squeezes_S1x256x1024_S256x1024
  have e7 : (free (F := F) c o7 : sProp 𝕄) = _ := acc_free c rO7 (fun _ => rfl) squeezes_S1x256x1024_S256x1024
  have e8 : (free (F := F) c o8 : sProp 𝕄) = _ := acc_free c rO8 (fun _ => rfl) squeezes_S1x256x1024_S256x1024
  have e9 : (free (F := F) c o9 : sProp 𝕄) = _ := acc_free c rO9 (fun _ => rfl) squeezes_S1x256x1024_S256x1024
  rw [e0, e1, e2, e3, e4, e5, e6, e7, e8, e9]
  exact (BI.BIBase.Entails.of_eq (ten fun p => iprop(∃ f, (c : Thread nD τ).loc cc0_scratch5 ↦[accSet p]{fullShare} f)).symm).trans
    (Ring.pointsTo_blocks_join_exists (ℓ := (c : Thread nD τ).loc cc0_scratch5) accSet acc_disj acc_cov (m ((c : Thread nD τ).loc cc0_scratch5)))

theorem row_free (c : Dev nD) (r : Rect S4096x1024) (hr : ∀ a, r.stride a = 1) :
    (free (F := F) c (vM.slice r hr) : sProp 𝕄) = iprop(∃ f, (c : Thread nD τ).loc main_v1 ↦[r.set]{fullShare} f) := by
  unfold free
  refine eq_of ?_ ?_
  · iintro ⟨%X, H⟩
    ihave H' := (BI.BIBase.Entails.of_eq (row_hold c r hr X)) $$ H
    icases H' with ⟨%f, -, H⟩
    iexists f; iexact H
  · iintro ⟨%f, H⟩; iexists (fun j => f (r.emb j))
    iapply (BI.BIBase.Entails.of_eq (row_hold c r hr (fun j => f (r.emb j))).symm)
    iexists f; isplitr; · (ipureintro; rfl)
    iexact H

/-- THE RESULT is its ten row blocks. -/
theorem res_split (c : Dev nD) (f : Buf (Elt F) ((c : Thread nD τ).loc main_v1)) :
    ((c : Thread nD τ).loc main_v1 ↦{fullShare} f) ⊢ (iprop(free (F := F) c (w0 c) ∗ free (F := F) c (w1 c) ∗ free (F := F) c (w2 c) ∗ free (F := F) c (w3 c) ∗ free (F := F) c (w4 c) ∗ free (F := F) c (w5 c) ∗ free (F := F) c (w6 c) ∗ free (F := F) c (w7 c) ∗ free (F := F) c (w8 c) ∗ free (F := F) c (w9 c)) : sProp 𝕄) := by
  rw [Ring.pointsTo_blocks (rowSet c) (row_disj c) (row_cov' c) f]
  have e0 : (free (F := F) c (w0 c) : sProp 𝕄) = _ := row_free c (rW0 c) (fun _ => rfl)
  have e1 : (free (F := F) c (w1 c) : sProp 𝕄) = _ := row_free c (rW1 c) (fun _ => rfl)
  have e2 : (free (F := F) c (w2 c) : sProp 𝕄) = _ := row_free c (rW2 c) (fun _ => rfl)
  have e3 : (free (F := F) c (w3 c) : sProp 𝕄) = _ := row_free c (rW3 c) (fun _ => rfl)
  have e4 : (free (F := F) c (w4 c) : sProp 𝕄) = _ := row_free c (rW4 c) (fun _ => rfl)
  have e5 : (free (F := F) c (w5 c) : sProp 𝕄) = _ := row_free c (rW5 c) (fun _ => rfl)
  have e6 : (free (F := F) c (w6 c) : sProp 𝕄) = _ := row_free c (rW6 c) (fun _ => rfl)
  have e7 : (free (F := F) c (w7 c) : sProp 𝕄) = _ := row_free c (rW7 c) (fun _ => rfl)
  have e8 : (free (F := F) c (w8 c) : sProp 𝕄) = _ := row_free c (rW8 c) (fun _ => rfl)
  have e9 : (free (F := F) c (w9 c) : sProp 𝕄) = _ := row_free c (rW9 c) (fun _ => rfl)
  rw [e0, e1, e2, e3, e4, e5, e6, e7, e8, e9]
  refine (bigSep_mono (Ψ := fun p => iprop(∃ f, (c : Thread nD τ).loc main_v1 ↦[rowSet c p]{fullShare} f)) fun p _ => ?_).trans (BI.BIBase.Entails.of_eq (ten _))
  exact some_of _ f

/-- What the result holds once every copy has landed: each row block its product. -/
def Written (c : Dev nD) (g : S4096x1024.Idx → Elt F .f32) : Prop :=
  RowsAre (rW0 c) g (z0 m c) ∧ RowsAre (rW1 c) g (z1 m c) ∧ RowsAre (rW2 c) g (z2 m c) ∧ RowsAre (rW3 c) g (z3 m c) ∧ RowsAre (rW4 c) g (z4 m c) ∧ RowsAre (rW5 c) g (z5 m c) ∧ RowsAre (rW6 c) g (z6 m c) ∧ RowsAre (rW7 c) g (z7 m c) ∧ RowsAre (rW8 c) g (z8 m c) ∧ RowsAre (rW9 c) g (z9 m c)

theorem res_join (c : Dev nD) :
    (iprop(hold c (w0 c) fullShare (z0 m c) ∗ hold c (w1 c) fullShare (z1 m c) ∗ hold c (w2 c) fullShare (z2 m c) ∗ hold c (w3 c) fullShare (z3 m c) ∗ hold c (w4 c) fullShare (z4 m c) ∗ hold c (w5 c) fullShare (z5 m c) ∗ hold c (w6 c) fullShare (z6 m c) ∗ hold c (w7 c) fullShare (z7 m c) ∗ hold c (w8 c) fullShare (z8 m c) ∗ hold c (w9 c) fullShare (z9 m c)) : sProp 𝕄)
      ⊢ iprop(∃ g, ⌜Written m c g⌝ ∗ ((c : Thread nD τ).loc main_v1 ↦{fullShare} g)) := by
  have e0 : (hold c (w0 c) fullShare (z0 m c) : sProp 𝕄) = _ := row_hold c (rW0 c) (fun _ => rfl) (z0 m c)
  have e1 : (hold c (w1 c) fullShare (z1 m c) : sProp 𝕄) = _ := row_hold c (rW1 c) (fun _ => rfl) (z1 m c)
  have e2 : (hold c (w2 c) fullShare (z2 m c) : sProp 𝕄) = _ := row_hold c (rW2 c) (fun _ => rfl) (z2 m c)
  have e3 : (hold c (w3 c) fullShare (z3 m c) : sProp 𝕄) = _ := row_hold c (rW3 c) (fun _ => rfl) (z3 m c)
  have e4 : (hold c (w4 c) fullShare (z4 m c) : sProp 𝕄) = _ := row_hold c (rW4 c) (fun _ => rfl) (z4 m c)
  have e5 : (hold c (w5 c) fullShare (z5 m c) : sProp 𝕄) = _ := row_hold c (rW5 c) (fun _ => rfl) (z5 m c)
  have e6 : (hold c (w6 c) fullShare (z6 m c) : sProp 𝕄) = _ := row_hold c (rW6 c) (fun _ => rfl) (z6 m c)
  have e7 : (hold c (w7 c) fullShare (z7 m c) : sProp 𝕄) = _ := row_hold c (rW7 c) (fun _ => rfl) (z7 m c)
  have e8 : (hold c (w8 c) fullShare (z8 m c) : sProp 𝕄) = _ := row_hold c (rW8 c) (fun _ => rfl) (z8 m c)
  have e9 : (hold c (w9 c) fullShare (z9 m c) : sProp 𝕄) = _ := row_hold c (rW9 c) (fun _ => rfl) (z9 m c)
  rw [e0, e1, e2, e3, e4, e5, e6, e7, e8, e9]
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  ihave H := ((BI.BIBase.Entails.of_eq (ten fun p => ((c : Thread nD τ).loc main_v1 ↦[rowSet c p]{fullShare} (![f0, f1, f2, f3, f4, f5, f6, f7, f8, f9] : Fin 10 → Buf (Elt F) ((c : Thread nD τ).loc main_v1)) p : sProp 𝕄)).symm).trans
    (pointsTo_biUnion_join (ℓ := (c : Thread nD τ).loc main_v1) Finset.univ (rowSet c) _ f0 (fun p _ p' _ h => row_disj c p p' h))) $$ [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  icases H with ⟨%g, %hg, H⟩
  iexists g
  isplitr
  · ipureintro
    have at_ (p : Fin 10) (r : Rect S4096x1024) (hr : rowSet c p = r.set) (f : S4096x1024.Idx → Elt F .f32) (z : r.shape.Idx → Elt F .f32) (hz : RowsAre r f z)
        (hf : (![f0, f1, f2, f3, f4, f5, f6, f7, f8, f9] : Fin 10 → Buf (Elt F) ((c : Thread nD τ).loc main_v1)) p = f) :
        RowsAre r g z := by
      unfold RowsAre at hz ⊢
      rw [← hz]
      funext j
      rw [← hf]; exact hg p (Finset.mem_univ _) _ (by rw [hr, ← Rect.map_emb_univ]; exact Finset.mem_map_of_mem _ (Finset.mem_univ j))
    exact ⟨at_ 0 (rW0 c) rfl f0 (z0 m c) h0 rfl, at_ 1 (rW1 c) rfl f1 (z1 m c) h1 rfl, at_ 2 (rW2 c) rfl f2 (z2 m c) h2 rfl, at_ 3 (rW3 c) rfl f3 (z3 m c) h3 rfl, at_ 4 (rW4 c) rfl f4 (z4 m c) h4 rfl, at_ 5 (rW5 c) rfl f5 (z5 m c) h5 rfl, at_ 6 (rW6 c) rfl f6 (z6 m c) h6 rfl, at_ 7 (rW7 c) rfl f7 (z7 m c) h7 rfl, at_ 8 (rW8 c) rfl f8 (z8 m c) h8 rfl, at_ 9 (rW9 c) rfl f9 (z9 m c) h9 rfl⟩
  rw [row_cov' c]; iexact H

end Cert.RingProof
end
-- ==== Proof.Body1.lean ====
/-
# The kernel's first half: to the third neighbouring block

The body runs in fourteen parts. Each has one theorem: from what it takes and what it leaves, the run of the part.
-/
module

public import proofs.«01_k».proof.Proof.Pieces

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) {α : Type} {Q : α → sProp (MT nD τ sig Unit (Elt F) ℕ UU ℕ)}

/-- The device's own scratch that its left neighbour fills, and the one its right neighbour fills. -/
def slotsL (c : Dev nD) : sProp 𝕄 := iprop(free (F := F) c (top lM) ∗ free (F := F) c (bot lM) ∗ free (F := F) c (qa dM) ∗ free (F := F) c (qb dM))
def slotsR (c : Dev nD) : sProp 𝕄 := iprop(free (F := F) c (top rM) ∗ free (F := F) c (bot rM) ∗ free (F := F) c (qc dM) ∗ free (F := F) c (qd dM))

/-- PART 1: both neighbours are told this device's scratch is free, and `A`'s block is read. -/
theorem part1 (c : Dev nD) {Q : _ → sProp (MT nD τ sig Unit (Elt F) ℕ UU ℕ)} :
    iprop(records m K ∗ owing (F := F) c (O₀ c) ∗ dutyTok ER (barCell (prv c)) 0 true ∗ dutyTok ER (barCell (nxt c)) 0 false ∗ slotsL c ∗ slotsR c
        ∗ hold c aM fullShare (aStg m c))
      ⊢ iprop((∀ v2 v13 v24, iprop(owing (F := F) c (OR c 0) ∗ hold c aM fullShare (aStg m c))
              -∗ Q ⟨c, v2, v13, v24, SemArray.scalar (sig.barrier 0 rfl), k0_pay1 (aStg m c)⟩)
          -∗ run c (k0_part1 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8) Q) := by
  unfold slotsL slotsR
  rw [k0_part1_eq_skeleton]; unfold k0_part1_skel
  simp only [semSignalWord, semWaitWord, Prog.lift, Prog.bind_op, Prog.bind_ret, Prog.pure_eq_ret, Prog.bind_assoc, run, wp_deviceId]
  iintro ⟨#HR, HO, HT, HF, ⟨L1, L2, L3, L4⟩, ⟨R1, R2, R3, R4⟩, HA⟩ Hk
  iapply (run_signal_left m K c _ (dev1_eq c)) $$ [HO HT L1 L2 L3 L4]
  · isplitr; · iexact HR
    isplitl [HO]; · iexact HO
    isplitl [HT]; · iexact HT
    isplitl [L1]; · iexact L1
    isplitl [L2]; · iexact L2
    isplitl [L3] <;> iassumption
  iintro HO
  iapply (run_signal_right m K c _ (dev2_eq c)) $$ [HO HF R1 R2 R3 R4]
  · isplitr; · iexact HR
    isplitl [HO]; · iexact HO
    isplitl [HF]; · iexact HF
    isplitl [R1]; · iexact R1
    isplitl [R2]; · iexact R2
    isplitl [R3] <;> iassumption
  iintro HO
  iapply (run_load_all c aM ra fullShare (aStg m c) (aStg m c) fun f hf => (Memref.readAt_unit_zero (Elt F) cc0_stg0_0 hz _ f).trans hf) $$ HA
  iintro HA
  iapply (run_ret c)
  iapply Hk
  isplitl [HO] <;> iassumption

/-- What the barrier leaves of its neighbours' scratch once the first three sends have used theirs. -/
def slots3 (c : Dev nD) : sProp 𝕄 := iprop(free (F := F) (nxt c) (qa dM) ∗ free (F := F) (nxt c) (qb dM) ∗ free (F := F) (prv c) (qc dM) ∗ free (F := F) (prv c) (qd dM))

/-- PART 2: `A`'s block goes to bf16, the barrier is passed, and the first three transfers start. -/
theorem part2 (c : Dev nD) (v13 v24 : BitVec 32) {Q : _ → sProp (MT nD τ sig Unit (Elt F) ℕ UU ℕ)} :
    iprop(records m K ∗ levAts L lv ∗ owing (F := F) c (OR c 0) ∗ atPos ER (barCell c) 0 ∅ 0 ∗ cred (tallyAt (barCell c) () 2)
        ∗ free (F := F) c mM ∗ snd (F := F) c 0 ∗ snd (F := F) c 1 ∗ snd (F := F) c 2)
      ⊢ iprop((iprop(owing (F := F) c (OR c 3) ∗ semVal (barCell c) 0 ∗ slots3 c ∗ free (F := F) (prv c) (top rM)
              ∗ snt (F := F) c 0 ∗ snt (F := F) c 1 ∗ snt (F := F) c 2
              ∗ hold c (top mM) fullShare.right (cut rT (abf m c)) ∗ hold c (bot mM) fullShare.right.right (cut rB (abf m c))) -∗ Q ⟨⟩)
          -∗ run c (k0_part2 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v13 v24 (SemArray.scalar (sig.barrier 0 rfl)) (k0_pay1 (aStg m c))) Q) := by
  unfold slots3
  rw [k0_part2_eq_skeleton]; unfold k0_part2_skel
  simp only [semSignalWord, semWaitWord, Prog.lift, Prog.bind_op, Prog.bind_ret, Prog.pure_eq_ret, Prog.bind_assoc, run, wp_deviceId]
  iintro ⟨#HR, #HL, HO, Hat, Hc, HM, S0, S1, S2⟩ Hk
  iapply (run_load_dead c mM) $$ HM; iintro %w HM
  iapply (run_store_all c mM ra (k0_pay2 (k0_pay1 (aStg m c))) (abf m c) fun f => (congrArg (mM.view.read (Elt F)) (Memref.write_access_unit_zero_univ (Elt F) cc0_scratch0 hz _ f (k0_pay2 (k0_pay1 (aStg m c))))).trans (View.read_whole _ _)) $$ HM
  iintro HM
  ihave HM2 := (BI.BIBase.Entails.of_eq (hold_TB c mM fullShare (abf m c))) $$ HM
  icases HM2 with ⟨HT, HB⟩
  iapply (run_barrier m K c) $$ [HO Hat Hc]
  · isplitr; · iexact HR
    isplitr; · iexact HL
    isplitl [HO]; · iexact HO
    isplitl [Hat] <;> iassumption
  unfold barPayF barPayT
  iintro ⟨HO, Hb, ⟨rT, rB, dC, dD⟩, ⟨lT, lB, dA, dB⟩⟩
  ihave HT2 := (hold_halves c (top mM) fullShare _) $$ HT; icases HT2 with ⟨T1, T2⟩
  ihave HB2 := (hold_halves c (bot mM) fullShare _) $$ HB; icases HB2 with ⟨B1, B2⟩
  ihave HB3 := (hold_halves c (bot mM) fullShare.right _) $$ B2; icases HB3 with ⟨B2, B3⟩
  iapply (run_send m K c _ 0 (dev3_eq c) (top mM) (top lM) fullShare.left (cut rT (abf m c)) rfl rfl
      (congrArg (fun d => hold (nxt c) (top lM) fullShare (cut rT (abf m d))) (prv_nxt c)) (sendS_eq 0 _) (recvS_eq 0 _)) $$ [T1 lT HO S0]
  · isplitr; · iexact HR
    isplitl [T1]; · iexact T1
    isplitl [lT]; · iexact lT
    isplitl [HO]; · iexact HO
    iexact S0
  iintro ⟨HO, S0⟩
  iapply (run_send m K c _ 1 (dev4_eq c) (bot mM) (bot rM) fullShare.left (cut rB (abf m c)) rfl rfl
      (congrArg (fun d => hold (prv c) (bot rM) fullShare (cut rB (abf m d))) (nxt_prv c)) (sendS_eq 1 _) (recvS_eq 1 _)) $$ [B1 rB HO S1]
  · isplitr; · iexact HR
    isplitl [B1]; · iexact B1
    isplitl [rB]; · iexact rB
    isplitl [HO]; · iexact HO
    iexact S1
  iintro ⟨HO, S1⟩
  iapply (run_send m K c _ 2 (dev5_eq c) (bot mM) (bot lM) fullShare.right.left (cut rB (abf m c)) rfl rfl
      (congrArg (fun d => hold (nxt c) (bot lM) fullShare (cut rB (abf m d))) (prv_nxt c)) (sendS_eq 2 _) (recvS_eq 2 _)) $$ [B2 lB HO S2]
  · isplitr; · iexact HR
    isplitl [B2]; · iexact B2
    isplitl [lB]; · iexact lB
    isplitl [HO]; · iexact HO
    iexact S2
  iintro ⟨HO, S2⟩
  iapply (run_ret c)
  iapply Hk
  isplitl [HO]; · iexact HO
  isplitl [Hb]; · iexact Hb
  isplitl [dA dB dC dD]
  · isplitl [dA]; · iexact dA
    isplitl [dB]; · iexact dB
    isplitl [dC] <;> iassumption
  isplitl [rT]; · iexact rT
  isplitl [S0]; · iexact S0
  isplitl [S1]; · iexact S1
  isplitl [S2]; · iexact S2
  isplitl [T2] <;> iassumption

/-- PART 3: the fourth transfer starts, `B` goes to bf16, and the first half of this device's own product is formed and copied out. -/
theorem part3 (c : Dev nD) (v2 v13 : BitVec 32) {Q : _ → sProp (MT nD τ sig Unit (Elt F) ℕ UU ℕ)} :
    iprop(records m K ∗ levAts L lv ∗ owing (F := F) c (OR c 3) ∗ snd (F := F) c 3 ∗ free (F := F) (prv c) (top rM) ∗ hold c (top mM) fullShare.right (cut rT (abf m c)) ∗ hold c bsM fullShare (bStg m c) ∗ free (F := F) c bM ∗ spot (F := F) c 0 o0 (w0 c))
      ⊢ iprop((iprop(owing (F := F) c (OR c 4) ∗ snt (F := F) c 3 ∗ hold c (top mM) fullShare.right.right (cut rT (abf m c)) ∗ hold c bsM fullShare (bStg m c) ∗ hold c bM fullShare (bbf m c) ∗ flying c 0 CH o0 (w0 c) (z0 m c)) -∗ Q ⟨⟩)
          -∗ run c (k0_part3 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v2 v13) Q) := by
  rw [k0_part3_eq_skeleton]; unfold k0_part3_skel
  simp only [semSignalWord, semWaitWord, Prog.lift, Prog.bind_op, Prog.bind_ret, Prog.pure_eq_ret, Prog.bind_assoc, run, wp_deviceId]
  iintro ⟨#HR, #HL, HO, S3, rT, HT, Hs, Hb, O0⟩ Hk
  ihave HT2 := (hold_halves c (top mM) fullShare.right _) $$ HT; icases HT2 with ⟨T1, HT⟩
  iapply (run_send m K c _ 3 (dev6_eq c) (top mM) (top rM) fullShare.right.left (cut rT (abf m c)) rfl rfl
      (congrArg (fun d => hold (prv c) (top rM) fullShare (cut rT (abf m d))) (nxt_prv c)) (sendS_eq 3 _) (recvS_eq 3 _)) $$ [T1 rT HO S3]
  · isplitr; · iexact HR
    isplitl [T1]; · iexact T1
    isplitl [rT]; · iexact rT
    isplitl [HO]; · iexact HO
    iexact S3
  iintro ⟨HO, S3⟩
  iapply (run_load_all c bsM rb fullShare (bStg m c) (bStg m c) fun f hf => (Memref.readAt_unit_zero (Elt F) cc0_stg1_0 hz _ f).trans hf) $$ Hs
  iintro Hs
  iapply (run_load_dead c bM) $$ Hb; iintro %w Hb
  iapply (run_store_all c bM rb (k0_pay3 (bStg m c)) (bbf m c) fun f => (congrArg (bM.view.read (Elt F)) (Memref.write_access_unit_zero_univ (Elt F) cc0_scratch1 hz _ f (k0_pay3 (bStg m c)))).trans (View.read_whole _ _)) $$ Hb
  iintro Hb
  iapply (run_block_copy m c 0 CH CH_pos mM rT (fun _ => rfl) fullShare.right.right (cut rT (abf m c)) rO0 (fun _ => rfl) squeezes_S1x512x1024_S512x1024 k0_pay4 (z0 m c) shapeCasts_S1x512x1024_S512x1024 (pay_half _ _ _) (w0 c) rfl (copyS_eq 0 _)) $$ [HT Hb O0]
  · isplitl [HT]; · iexact HT
    isplitl [Hb]; · iexact Hb
    iexact O0
  iintro ⟨HT, Hb, O0⟩
  iapply (run_ret c)
  iapply Hk
  isplitl [HO]; · iexact HO
  isplitl [S3]; · iexact S3
  isplitl [HT]; · iexact HT
  isplitl [Hs]; · iexact Hs
  isplitl [Hb]; · iexact Hb
  iexact O0

/-- PART 4: the second half of its own product, and the left neighbour's first half arrives and is passed on by quarters. -/
theorem part4 (c : Dev nD) (v2 v24 : BitVec 32) {Q : _ → sProp (MT nD τ sig Unit (Elt F) ℕ UU ℕ)} :
    iprop(records m K ∗ levAts L lv ∗ owing (F := F) c (OR c 4) ∗ hold c (bot mM) fullShare.right.right (cut rB (abf m c)) ∗ hold c bM fullShare (bbf m c) ∗ spot (F := F) c 1 o1 (w1 c) ∗ rcv (F := F) c 0 ∗ snd (F := F) c 4 ∗ free (F := F) (nxt c) (qa dM))
      ⊢ iprop((iprop(owing (F := F) c (OR c 5) ∗ hold c (bot mM) fullShare.right.right (cut rB (abf m c)) ∗ hold c bM fullShare (bbf m c) ∗ flying c 1 CH o1 (w1 c) (z1 m c) ∗ doneR (F := F) c 0 ∗ snt (F := F) c 4 ∗ hold c (top lM) fullShare.right (cut rT (abf m (prv c))) ∗ hold c (qb lM) fullShare.left (cut rQ1 (abf m (prv c)))) -∗ Q ⟨⟩)
          -∗ run c (k0_part4 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v2 v24) Q) := by
  rw [k0_part4_eq_skeleton]; unfold k0_part4_skel
  simp only [semSignalWord, semWaitWord, Prog.lift, Prog.bind_op, Prog.bind_ret, Prog.pure_eq_ret, Prog.bind_assoc, run, wp_deviceId]
  iintro ⟨#HR, #HL, HO, HB, Hb, O1, V0, S4, dA⟩ Hk
  iapply (run_block_copy m c 1 CH CH_pos mM rB (fun _ => rfl) fullShare.right.right (cut rB (abf m c)) rO1 (fun _ => rfl) squeezes_S1x512x1024_S512x1024 k0_pay5 (z1 m c) shapeCasts_S1x512x1024_S512x1024 (pay_half _ _ _) (w1 c) rfl (copyS_eq 1 _)) $$ [HB Hb O1]
  · isplitl [HB]; · iexact HB
    isplitl [Hb]; · iexact Hb
    iexact O1
  iintro ⟨HB, Hb, O1⟩
  iapply (run_recv m K c 0 4 (mayWait_recv c 0 (by decide) 4 (by decide)) (recvS_eq 0 _) (dst := top lM) rfl (hold c (top lM) fullShare (cut rT (abf m (prv c)))) rfl) $$ [HO V0]
  · isplitr; · iexact HR
    isplitr; · iexact HL
    isplitl [HO]; · iexact HO
    iexact V0
  iintro ⟨HO, V0, HL0⟩
  ihave HL2 := (hold_halves c (top lM) fullShare _) $$ HL0; icases HL2 with ⟨Hl, HL0⟩
  ihave Hl2 := (BI.BIBase.Entails.of_eq (hold_T m c lM fullShare.left _)) $$ Hl; icases Hl2 with ⟨Hp, Hq⟩
  iapply (run_send m K c _ 4 (dev7_eq c) (qa lM) (qa dM) fullShare.left (cut rQ0 (abf m (prv c))) rfl rfl
      (congrArg (fun d => hold (nxt c) (qa dM) fullShare (cut rQ0 (abf m d))) (opp_nxt c)) (sendS_eq 4 _) (recvS_eq 4 _)) $$ [Hp dA HO S4]
  · isplitr; · iexact HR
    isplitl [Hp]; · iexact Hp
    isplitl [dA]; · iexact dA
    isplitl [HO]; · iexact HO
    iexact S4
  iintro ⟨HO, S4⟩
  iapply (run_ret c)
  iapply Hk
  isplitl [HO]; · iexact HO
  isplitl [HB]; · iexact HB
  isplitl [Hb]; · iexact Hb
  isplitl [O1]; · iexact O1
  isplitl [V0]; · iexact V0
  isplitl [S4]; · iexact S4
  isplitl [HL0]; · iexact HL0
  iexact Hq

/-- PART 5: the other quarter is passed on, and the left neighbour's first half is multiplied. -/
theorem part5 (c : Dev nD) (v13 v24 : BitVec 32) {Q : _ → sProp (MT nD τ sig Unit (Elt F) ℕ UU ℕ)} :
    iprop(records m K ∗ owing (F := F) c (OR c 5) ∗ snd (F := F) c 5 ∗ hold c (qb lM) fullShare.left (cut rQ1 (abf m (prv c))) ∗ free (F := F) (nxt c) (qb dM) ∗ hold c (top lM) fullShare.right (cut rT (abf m (prv c))) ∗ hold c bM fullShare (bbf m c) ∗ spot (F := F) c 2 o2 (w2 c))
      ⊢ iprop((iprop(owing (F := F) c (OR c 6) ∗ snt (F := F) c 5 ∗ hold c (top lM) fullShare.right (cut rT (abf m (prv c))) ∗ hold c bM fullShare (bbf m c) ∗ flying c 2 CH o2 (w2 c) (z2 m c)) -∗ Q ⟨⟩)
          -∗ run c (k0_part5 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v13 v24) Q) := by
  rw [k0_part5_eq_skeleton]; unfold k0_part5_skel
  simp only [semSignalWord, semWaitWord, Prog.lift, Prog.bind_op, Prog.bind_ret, Prog.pure_eq_ret, Prog.bind_assoc, run, wp_deviceId]
  iintro ⟨#HR, HO, S5, Hq, dB, HL0, Hb, O2⟩ Hk
  iapply (run_send m K c _ 5 (dev8_eq c) (qb lM) (qb dM) fullShare.left (cut rQ1 (abf m (prv c))) rfl rfl
      (congrArg (fun d => hold (nxt c) (qb dM) fullShare (cut rQ1 (abf m d))) (opp_nxt c)) (sendS_eq 5 _) (recvS_eq 5 _)) $$ [Hq dB HO S5]
  · isplitr; · iexact HR
    isplitl [Hq]; · iexact Hq
    isplitl [dB]; · iexact dB
    isplitl [HO]; · iexact HO
    iexact S5
  iintro ⟨HO, S5⟩
  iapply (run_block_copy m c 2 CH CH_pos lM rT (fun _ => rfl) fullShare.right (cut rT (abf m (prv c))) rO2 (fun _ => rfl) squeezes_S1x512x1024_S512x1024 k0_pay6 (z2 m c) shapeCasts_S1x512x1024_S512x1024 (pay_half _ _ _) (w2 c) rfl (copyS_eq 2 _)) $$ [HL0 Hb O2]
  · isplitl [HL0]; · iexact HL0
    isplitl [Hb]; · iexact Hb
    iexact O2
  iintro ⟨HL0, Hb, O2⟩
  iapply (run_ret c)
  iapply Hk
  isplitl [HO]; · iexact HO
  isplitl [S5]; · iexact S5
  isplitl [HL0]; · iexact HL0
  isplitl [Hb]; · iexact Hb
  iexact O2

/-- PART 6: the right neighbour's second half arrives, is passed on by quarters, and is multiplied. -/
theorem part6 (c : Dev nD) (v13 v24 : BitVec 32) {Q : _ → sProp (MT nD τ sig Unit (Elt F) ℕ UU ℕ)} :
    iprop(records m K ∗ levAts L lv ∗ owing (F := F) c (OR c 6) ∗ rcv (F := F) c 1 ∗ snd (F := F) c 6 ∗ snd (F := F) c 7 ∗ free (F := F) (prv c) (qc dM) ∗ free (F := F) (prv c) (qd dM) ∗ hold c bM fullShare (bbf m c) ∗ free (F := F) c o3)
      ⊢ iprop((iprop(owing (F := F) c (OR c 8) ∗ doneR (F := F) c 1 ∗ snt (F := F) c 6 ∗ snt (F := F) c 7 ∗ hold c (bot rM) fullShare.right (cut rB (abf m (nxt c))) ∗ hold c bM fullShare (bbf m c) ∗ hold c o3 fullShare (z3 m c)) -∗ Q ⟨⟩)
          -∗ run c (k0_part6 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v13 v24) Q) := by
  rw [k0_part6_eq_skeleton]; unfold k0_part6_skel
  simp only [semSignalWord, semWaitWord, Prog.lift, Prog.bind_op, Prog.bind_ret, Prog.pure_eq_ret, Prog.bind_assoc, run, wp_deviceId]
  iintro ⟨#HR, #HL, HO, V1, S6, S7, dC, dD, Hb, O3⟩ Hk
  iapply (run_recv m K c 1 6 (mayWait_recv c 1 (by decide) 6 (by decide)) (recvS_eq 1 _) (dst := bot rM) rfl (hold c (bot rM) fullShare (cut rB (abf m (nxt c)))) rfl) $$ [HO V1]
  · isplitr; · iexact HR
    isplitr; · iexact HL
    isplitl [HO]; · iexact HO
    iexact V1
  iintro ⟨HO, V1, HR1⟩
  ihave HL2 := (hold_halves c (bot rM) fullShare _) $$ HR1; icases HL2 with ⟨Hl, HR1⟩
  ihave Hl2 := (BI.BIBase.Entails.of_eq (hold_B m c rM fullShare.left _)) $$ Hl; icases Hl2 with ⟨Hp, Hq⟩
  iapply (run_send m K c _ 6 (dev9_eq c) (qc rM) (qc dM) fullShare.left (cut rQ2 (abf m (nxt c))) rfl rfl
      (congrArg (fun d => hold (prv c) (qc dM) fullShare (cut rQ2 (abf m d))) (opp_prv c)) (sendS_eq 6 _) (recvS_eq 6 _)) $$ [Hp dC HO S6]
  · isplitr; · iexact HR
    isplitl [Hp]; · iexact Hp
    isplitl [dC]; · iexact dC
    isplitl [HO]; · iexact HO
    iexact S6
  iintro ⟨HO, S6⟩
  iapply (run_send m K c _ 7 (dev10_eq c) (qd rM) (qd dM) fullShare.left (cut rQ3 (abf m (nxt c))) rfl rfl
      (congrArg (fun d => hold (prv c) (qd dM) fullShare (cut rQ3 (abf m d))) (opp_prv c)) (sendS_eq 7 _) (recvS_eq 7 _)) $$ [Hq dD HO S7]
  · isplitr; · iexact HR
    isplitl [Hq]; · iexact Hq
    isplitl [dD]; · iexact dD
    isplitl [HO]; · iexact HO
    iexact S7
  iintro ⟨HO, S7⟩
  iapply (run_block m c rM rB (fun _ => rfl) fullShare.right (cut rB (abf m (nxt c))) rO3 (fun _ => rfl) squeezes_S1x512x1024_S512x1024 k0_pay7 (z3 m c) shapeCasts_S1x512x1024_S512x1024 (pay_half _ _ _)) $$ [HR1 Hb O3]
  · isplitl [HR1]; · iexact HR1
    isplitl [Hb]; · iexact Hb
    iexact O3
  iintro ⟨HR1, Hb, O3⟩
  iapply (run_ret c)
  iapply Hk
  isplitl [HO]; · iexact HO
  isplitl [V1]; · iexact V1
  isplitl [S6]; · iexact S6
  isplitl [S7]; · iexact S7
  isplitl [HR1]; · iexact HR1
  isplitl [Hb]; · iexact Hb
  iexact O3

end Cert.RingProof
end
-- ==== Proof.Body2.lean ====
/-
# The kernel's second half: the other blocks, and the waits at the end
-/
module

public import proofs.«01_k».proof.Proof.Body1

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) {α : Type} {Q : α → sProp (MT nD τ sig Unit (Elt F) ℕ UU ℕ)}

/-- PART 7: that product is copied out; the left neighbour's second half arrives and is multiplied. -/
theorem part7 (c : Dev nD) (v13 v24 : BitVec 32) {Q : _ → sProp (MT nD τ sig Unit (Elt F) ℕ UU ℕ)} :
    iprop(records m K ∗ levAts L lv ∗ owing (F := F) c (OR c 8) ∗ hold c o3 fullShare (z3 m c) ∗ free (F := F) c (w3 c) ∗ idle (F := F) c 3 ∗ rcv (F := F) c 2 ∗ hold c bM fullShare (bbf m c) ∗ spot (F := F) c 4 o4 (w4 c))
      ⊢ iprop((iprop(owing (F := F) c (OR c 8) ∗ flying c 3 CH o3 (w3 c) (z3 m c) ∗ doneR (F := F) c 2 ∗ hold c (bot lM) fullShare (cut rB (abf m (prv c))) ∗ hold c bM fullShare (bbf m c) ∗ flying c 4 CH o4 (w4 c) (z4 m c)) -∗ Q ⟨⟩)
          -∗ run c (k0_part7 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v13 v24) Q) := by
  rw [k0_part7_eq_skeleton]; unfold k0_part7_skel
  simp only [semSignalWord, semWaitWord, Prog.lift, Prog.bind_op, Prog.bind_ret, Prog.pure_eq_ret, Prog.bind_assoc, run, wp_deviceId]
  iintro ⟨#HR, #HL, HO, O3, W3, I3, V2, Hb, O4⟩ Hk
  iapply (run_copy c 3 CH CH_pos o3 (w3 c) rfl (z3 m c) (copyS_eq 3 _)) $$ [O3 W3 I3]
  · isplitl [O3]; · iexact O3
    isplitl [W3]; · iexact W3
    iexact I3
  iintro O3
  iapply (run_recv m K c 2 8 (mayWait_recv c 2 (by decide) 8 (by decide)) (recvS_eq 2 _) (dst := bot lM) rfl (hold c (bot lM) fullShare (cut rB (abf m (prv c)))) rfl) $$ [HO V2]
  · isplitr; · iexact HR
    isplitr; · iexact HL
    isplitl [HO]; · iexact HO
    iexact V2
  iintro ⟨HO, V2, HL2⟩
  iapply (run_block_copy m c 4 CH CH_pos lM rB (fun _ => rfl) fullShare (cut rB (abf m (prv c))) rO4 (fun _ => rfl) squeezes_S1x512x1024_S512x1024 k0_pay8 (z4 m c) shapeCasts_S1x512x1024_S512x1024 (pay_half _ _ _) (w4 c) rfl (copyS_eq 4 _)) $$ [HL2 Hb O4]
  · isplitl [HL2]; · iexact HL2
    isplitl [Hb]; · iexact Hb
    iexact O4
  iintro ⟨HL2, Hb, O4⟩
  iapply (run_ret c)
  iapply Hk
  isplitl [HO]; · iexact HO
  isplitl [O3]; · iexact O3
  isplitl [V2]; · iexact V2
  isplitl [HL2]; · iexact HL2
  isplitl [Hb]; · iexact Hb
  iexact O4

/-- PART 8: the right neighbour's first half arrives and is multiplied. -/
theorem part8 (c : Dev nD) (v2 v24 : BitVec 32) {Q : _ → sProp (MT nD τ sig Unit (Elt F) ℕ UU ℕ)} :
    iprop(records m K ∗ levAts L lv ∗ owing (F := F) c (OR c 8) ∗ rcv (F := F) c 3 ∗ hold c bM fullShare (bbf m c) ∗ spot (F := F) c 5 o5 (w5 c))
      ⊢ iprop((∀ v218, iprop(owing (F := F) c (OR c 8) ∗ doneR (F := F) c 3 ∗ hold c (top rM) fullShare (cut rT (abf m (nxt c))) ∗ hold c bM fullShare (bbf m c) ∗ flying c 5 CH o5 (w5 c) (z5 m c)) -∗ Q v218)
          -∗ run c (k0_part8 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v2 v24) Q) := by
  rw [k0_part8_eq_skeleton]; unfold k0_part8_skel
  simp only [semSignalWord, semWaitWord, Prog.lift, Prog.bind_op, Prog.bind_ret, Prog.pure_eq_ret, Prog.bind_assoc, run, wp_deviceId]
  iintro ⟨#HR, #HL, HO, V3, Hb, O5⟩ Hk
  iapply (run_recv m K c 3 8 (mayWait_recv c 3 (by decide) 8 (by decide)) (recvS_eq 3 _) (dst := top rM) rfl (hold c (top rM) fullShare (cut rT (abf m (nxt c)))) rfl) $$ [HO V3]
  · isplitr; · iexact HR
    isplitr; · iexact HL
    isplitl [HO]; · iexact HO
    iexact V3
  iintro ⟨HO, V3, HR3⟩
  iapply (run_block_copy m c 5 CH CH_pos rM rT (fun _ => rfl) fullShare (cut rT (abf m (nxt c))) rO5 (fun _ => rfl) squeezes_S1x512x1024_S512x1024 k0_pay9 (z5 m c) shapeCasts_S1x512x1024_S512x1024 (pay_half _ _ _) (w5 c) rfl (copyS_eq 5 _)) $$ [HR3 Hb O5]
  · isplitl [HR3]; · iexact HR3
    isplitl [Hb]; · iexact Hb
    iexact O5
  iintro ⟨HR3, Hb, O5⟩
  iapply (run_ret c)
  iapply Hk
  isplitl [HO]; · iexact HO
  isplitl [V3]; · iexact V3
  isplitl [HR3]; · iexact HR3
  isplitl [Hb]; · iexact Hb
  iexact O5

/-- PART 9: the opposite device's first two quarters arrive; the first is multiplied, the second read. -/
theorem part9 (c : Dev nD) (v24 v218 : BitVec 32) {Q : _ → sProp (MT nD τ sig Unit (Elt F) ℕ UU ℕ)} :
    iprop(records m K ∗ levAts L lv ∗ owing (F := F) c (OR c 8) ∗ rcv (F := F) c 4 ∗ rcv (F := F) c 5 ∗ hold c bM fullShare (bbf m c) ∗ spot (F := F) c 6 o6 (w6 c))
      ⊢ iprop((iprop(owing (F := F) c (OR c 8) ∗ doneR (F := F) c 4 ∗ doneR (F := F) c 5 ∗ hold c (qa dM) fullShare (cut rQ0 (abf m (opp c))) ∗ hold c (qb dM) fullShare (cut rQ1 (abf m (opp c))) ∗ hold c bM fullShare (bbf m c) ∗ flying c 6 CQ o6 (w6 c) (z6 m c)) -∗ Q ⟨cut rQ1 (abf m (opp c)), bbf m c⟩)
          -∗ run c (k0_part9 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v24 v218) Q) := by
  rw [k0_part9_eq_skeleton]; unfold k0_part9_skel
  simp only [semSignalWord, semWaitWord, Prog.lift, Prog.bind_op, Prog.bind_ret, Prog.pure_eq_ret, Prog.bind_assoc, run, wp_deviceId]
  iintro ⟨#HR, #HL, HO, V4, V5, Hb, O6⟩ Hk
  iapply (run_recv m K c 4 8 (mayWait_last c _) (recvS_eq 4 _) (dst := qa dM) rfl (hold c (qa dM) fullShare (cut rQ0 (abf m (opp c)))) rfl) $$ [HO V4]
  · isplitr; · iexact HR
    isplitr; · iexact HL
    isplitl [HO]; · iexact HO
    iexact V4
  iintro ⟨HO, V4, D4⟩
  iapply (run_block_copy m c 6 CQ CQ_pos dM rQ0 (fun _ => rfl) fullShare (cut rQ0 (abf m (opp c))) rO6 (fun _ => rfl) squeezes_S1x256x1024_S256x1024 k0_pay10 (z6 m c) shapeCasts_S1x256x1024_S256x1024 (pay_quarter _ _ _) (w6 c) rfl (copyS_eq 6 _)) $$ [D4 Hb O6]
  · isplitl [D4]; · iexact D4
    isplitl [Hb]; · iexact Hb
    iexact O6
  iintro ⟨D4, Hb, O6⟩
  iapply (run_recv m K c 5 8 (mayWait_last c _) (recvS_eq 5 _) (dst := qb dM) rfl (hold c (qb dM) fullShare (cut rQ1 (abf m (opp c)))) rfl) $$ [HO V5]
  · isplitr; · iexact HR
    isplitr; · iexact HL
    isplitl [HO]; · iexact HO
    iexact V5
  iintro ⟨HO, V5, D5⟩
  iapply (run_load c dM rQ1 (fun _ => rfl) fullShare (cut rQ1 (abf m (opp c)))) $$ D5; iintro D5
  iapply (run_load_b m c) $$ Hb; iintro Hb
  iapply (run_ret c)
  iapply Hk
  isplitl [HO]; · iexact HO
  isplitl [V4]; · iexact V4
  isplitl [V5]; · iexact V5
  isplitl [D4]; · iexact D4
  isplitl [D5]; · iexact D5
  isplitl [Hb]; · iexact Hb
  iexact O6

/-- PART 10: the second quarter's product is stored and copied out; the third arrives and is multiplied. -/
theorem part10 (c : Dev nD) (v13 v218 : BitVec 32) {Q : _ → sProp (MT nD τ sig Unit (Elt F) ℕ UU ℕ)} :
    iprop(records m K ∗ levAts L lv ∗ owing (F := F) c (OR c 8) ∗ free (F := F) c o7 ∗ free (F := F) c (w7 c) ∗ idle (F := F) c 7 ∗ rcv (F := F) c 6 ∗ hold c bM fullShare (bbf m c) ∗ free (F := F) c o8)
      ⊢ iprop((iprop(owing (F := F) c (OR c 8) ∗ flying c 7 CQ o7 (w7 c) (z7 m c) ∗ doneR (F := F) c 6 ∗ hold c (qc dM) fullShare (cut rQ2 (abf m (opp c))) ∗ hold c bM fullShare (bbf m c) ∗ hold c o8 fullShare (z8 m c)) -∗ Q ⟨⟩)
          -∗ run c (k0_part10 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v13 v218 (cut rQ1 (abf m (opp c))) (bbf m c)) Q) := by
  rw [k0_part10_eq_skeleton]; unfold k0_part10_skel
  simp only [semSignalWord, semWaitWord, Prog.lift, Prog.bind_op, Prog.bind_ret, Prog.pure_eq_ret, Prog.bind_assoc, run, wp_deviceId]
  iintro ⟨#HR, #HL, HO, O7, W7, I7, V6, Hb, O8⟩ Hk
  iapply (run_load_acc c rO7 (fun _ => rfl) squeezes_S1x256x1024_S256x1024) $$ O7; iintro %w O7
  iapply (run_store_acc c rO7 (fun _ => rfl) squeezes_S1x256x1024_S256x1024 _ (z7 m c) shapeCasts_S1x256x1024_S256x1024 (pay_quarter _ _ _)) $$ O7; iintro O7
  iapply (run_copy c 7 CQ CQ_pos o7 (w7 c) rfl (z7 m c) (copyS_eq 7 _)) $$ [O7 W7 I7]
  · isplitl [O7]; · iexact O7
    isplitl [W7]; · iexact W7
    iexact I7
  iintro O7
  iapply (run_recv m K c 6 8 (mayWait_last c _) (recvS_eq 6 _) (dst := qc dM) rfl (hold c (qc dM) fullShare (cut rQ2 (abf m (opp c)))) rfl) $$ [HO V6]
  · isplitr; · iexact HR
    isplitr; · iexact HL
    isplitl [HO]; · iexact HO
    iexact V6
  iintro ⟨HO, V6, D6⟩
  iapply (run_block m c dM rQ2 (fun _ => rfl) fullShare (cut rQ2 (abf m (opp c))) rO8 (fun _ => rfl) squeezes_S1x256x1024_S256x1024 k0_pay12 (z8 m c) shapeCasts_S1x256x1024_S256x1024 (pay_quarter _ _ _)) $$ [D6 Hb O8]
  · isplitl [D6]; · iexact D6
    isplitl [Hb]; · iexact Hb
    iexact O8
  iintro ⟨D6, Hb, O8⟩
  iapply (run_ret c)
  iapply Hk
  isplitl [HO]; · iexact HO
  isplitl [O7]; · iexact O7
  isplitl [V6]; · iexact V6
  isplitl [D6]; · iexact D6
  isplitl [Hb]; · iexact Hb
  iexact O8

/-- PART 11: that product is copied out; the last quarter arrives and is multiplied. -/
theorem part11 (c : Dev nD) (v13 v218 : BitVec 32) {Q : _ → sProp (MT nD τ sig Unit (Elt F) ℕ UU ℕ)} :
    iprop(records m K ∗ levAts L lv ∗ owing (F := F) c (OR c 8) ∗ hold c o8 fullShare (z8 m c) ∗ free (F := F) c (w8 c) ∗ idle (F := F) c 8 ∗ rcv (F := F) c 7 ∗ hold c bM fullShare (bbf m c) ∗ spot (F := F) c 9 o9 (w9 c))
      ⊢ iprop((iprop(owing (F := F) c (OR c 8) ∗ flying c 8 CQ o8 (w8 c) (z8 m c) ∗ doneR (F := F) c 7 ∗ hold c (qd dM) fullShare (cut rQ3 (abf m (opp c))) ∗ hold c bM fullShare (bbf m c) ∗ flying c 9 CQ o9 (w9 c) (z9 m c)) -∗ Q ⟨⟩)
          -∗ run c (k0_part11 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c v13 v218) Q) := by
  rw [k0_part11_eq_skeleton]; unfold k0_part11_skel
  simp only [semSignalWord, semWaitWord, Prog.lift, Prog.bind_op, Prog.bind_ret, Prog.pure_eq_ret, Prog.bind_assoc, run, wp_deviceId]
  iintro ⟨#HR, #HL, HO, O8, W8, I8, V7, Hb, O9⟩ Hk
  iapply (run_copy c 8 CQ CQ_pos o8 (w8 c) rfl (z8 m c) (copyS_eq 8 _)) $$ [O8 W8 I8]
  · isplitl [O8]; · iexact O8
    isplitl [W8]; · iexact W8
    iexact I8
  iintro O8
  iapply (run_recv m K c 7 8 (mayWait_last c _) (recvS_eq 7 _) (dst := qd dM) rfl (hold c (qd dM) fullShare (cut rQ3 (abf m (opp c)))) rfl) $$ [HO V7]
  · isplitr; · iexact HR
    isplitr; · iexact HL
    isplitl [HO]; · iexact HO
    iexact V7
  iintro ⟨HO, V7, D7⟩
  iapply (run_block_copy m c 9 CQ CQ_pos dM rQ3 (fun _ => rfl) fullShare (cut rQ3 (abf m (opp c))) rO9 (fun _ => rfl) squeezes_S1x256x1024_S256x1024 k0_pay13 (z9 m c) shapeCasts_S1x256x1024_S256x1024 (pay_quarter _ _ _) (w9 c) rfl (copyS_eq 9 _)) $$ [D7 Hb O9]
  · isplitl [D7]; · iexact D7
    isplitl [Hb]; · iexact Hb
    iexact O9
  iintro ⟨D7, Hb, O9⟩
  iapply (run_ret c)
  iapply Hk
  isplitl [HO]; · iexact HO
  isplitl [O8]; · iexact O8
  isplitl [V7]; · iexact V7
  isplitl [D7]; · iexact D7
  isplitl [Hb]; · iexact Hb
  iexact O9

/-- PART 12: the first six copies are waited for. -/
theorem part12 (c : Dev nD) {Q : _ → sProp (MT nD τ sig Unit (Elt F) ℕ UU ℕ)} :
    iprop(owing (F := F) c 0 ∗ flying c 0 CH o0 (w0 c) (z0 m c) ∗ flying c 1 CH o1 (w1 c) (z1 m c) ∗ flying c 2 CH o2 (w2 c) (z2 m c) ∗ flying c 3 CH o3 (w3 c) (z3 m c) ∗ flying c 4 CH o4 (w4 c) (z4 m c) ∗ flying c 5 CH o5 (w5 c) (z5 m c))
      ⊢ iprop((iprop(owing (F := F) c 0 ∗ back c 0 o0 (w0 c) (z0 m c) ∗ back c 1 o1 (w1 c) (z1 m c) ∗ back c 2 o2 (w2 c) (z2 m c) ∗ back c 3 o3 (w3 c) (z3 m c) ∗ back c 4 o4 (w4 c) (z4 m c) ∗ back c 5 o5 (w5 c) (z5 m c)) -∗ Q ⟨⟩)
          -∗ run c (k0_part12 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c) Q) := by
  rw [k0_part12_eq_skeleton]; unfold k0_part12_skel
  simp only [semSignalWord, semWaitWord, Prog.lift, Prog.bind_op, Prog.bind_ret, Prog.pure_eq_ret, Prog.bind_assoc, run, wp_deviceId]
  iintro ⟨HO, O0, O1, O2, O3, O4, O5⟩ Hk
  iapply (run_back c 0 CH o0 (w0 c) rfl (z0 m c) (copyS_eq 0 _)) $$ [O0 HO]
  · isplitl [O0]; · iexact O0
    iexact HO
  iintro ⟨HO, O0⟩
  iapply (run_back c 1 CH o1 (w1 c) rfl (z1 m c) (copyS_eq 1 _)) $$ [O1 HO]
  · isplitl [O1]; · iexact O1
    iexact HO
  iintro ⟨HO, O1⟩
  iapply (run_back c 2 CH o2 (w2 c) rfl (z2 m c) (copyS_eq 2 _)) $$ [O2 HO]
  · isplitl [O2]; · iexact O2
    iexact HO
  iintro ⟨HO, O2⟩
  iapply (run_back c 3 CH o3 (w3 c) rfl (z3 m c) (copyS_eq 3 _)) $$ [O3 HO]
  · isplitl [O3]; · iexact O3
    iexact HO
  iintro ⟨HO, O3⟩
  iapply (run_back c 4 CH o4 (w4 c) rfl (z4 m c) (copyS_eq 4 _)) $$ [O4 HO]
  · isplitl [O4]; · iexact O4
    iexact HO
  iintro ⟨HO, O4⟩
  iapply (run_back c 5 CH o5 (w5 c) rfl (z5 m c) (copyS_eq 5 _)) $$ [O5 HO]
  · isplitl [O5]; · iexact O5
    iexact HO
  iintro ⟨HO, O5⟩
  iapply (run_ret c)
  iapply Hk
  isplitl [HO]; · iexact HO
  isplitl [O0]; · iexact O0
  isplitl [O1]; · iexact O1
  isplitl [O2]; · iexact O2
  isplitl [O3]; · iexact O3
  isplitl [O4]; · iexact O4
  iexact O5

/-- PART 13: the last four copies and the first send are waited for. -/
theorem part13 (c : Dev nD) {Q : _ → sProp (MT nD τ sig Unit (Elt F) ℕ UU ℕ)} :
    iprop(records m K ∗ owing (F := F) c 0 ∗ flying c 6 CQ o6 (w6 c) (z6 m c) ∗ flying c 7 CQ o7 (w7 c) (z7 m c) ∗ flying c 8 CQ o8 (w8 c) (z8 m c) ∗ flying c 9 CQ o9 (w9 c) (z9 m c) ∗ snt (F := F) c 0)
      ⊢ iprop((iprop(owing (F := F) c 0 ∗ back c 6 o6 (w6 c) (z6 m c) ∗ back c 7 o7 (w7 c) (z7 m c) ∗ back c 8 o8 (w8 c) (z8 m c) ∗ back c 9 o9 (w9 c) (z9 m c) ∗ doneS (F := F) c 0 ∗ hold c (top mM) fullShare.left (cut rT (abf m c))) -∗ Q ⟨⟩)
          -∗ run c (k0_part13 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8 c) Q) := by
  rw [k0_part13_eq_skeleton]; unfold k0_part13_skel
  simp only [semSignalWord, semWaitWord, Prog.lift, Prog.bind_op, Prog.bind_ret, Prog.pure_eq_ret, Prog.bind_assoc, run, wp_deviceId]
  iintro ⟨#HR, HO, O6, O7, O8, O9, S0⟩ Hk
  iapply (run_back c 6 CQ o6 (w6 c) rfl (z6 m c) (copyS_eq 6 _)) $$ [O6 HO]
  · isplitl [O6]; · iexact O6
    iexact HO
  iintro ⟨HO, O6⟩
  iapply (run_back c 7 CQ o7 (w7 c) rfl (z7 m c) (copyS_eq 7 _)) $$ [O7 HO]
  · isplitl [O7]; · iexact O7
    iexact HO
  iintro ⟨HO, O7⟩
  iapply (run_back c 8 CQ o8 (w8 c) rfl (z8 m c) (copyS_eq 8 _)) $$ [O8 HO]
  · isplitl [O8]; · iexact O8
    iexact HO
  iintro ⟨HO, O8⟩
  iapply (run_back c 9 CQ o9 (w9 c) rfl (z9 m c) (copyS_eq 9 _)) $$ [O9 HO]
  · isplitl [O9]; · iexact O9
    iexact HO
  iintro ⟨HO, O9⟩
  iapply (run_sent m K c 0 (sendS_eq 0 _) (dst := top mM) rfl (hold c (top mM) fullShare.left (cut rT (abf m c))) rfl) $$ [HO S0]
  · isplitr; · iexact HR
    isplitl [HO]; · iexact HO
    iexact S0
  iintro ⟨HO, S0, B0⟩
  iapply (run_ret c)
  iapply Hk
  isplitl [HO]; · iexact HO
  isplitl [O6]; · iexact O6
  isplitl [O7]; · iexact O7
  isplitl [O8]; · iexact O8
  isplitl [O9]; · iexact O9
  isplitl [S0]; · iexact S0
  iexact B0

/-- PART 14: the next five sends are waited for. -/
theorem part14 (c : Dev nD) {Q : _ → sProp (MT nD τ sig Unit (Elt F) ℕ UU ℕ)} :
    iprop(records m K ∗ owing (F := F) c 0 ∗ snt (F := F) c 1 ∗ snt (F := F) c 2 ∗ snt (F := F) c 3 ∗ snt (F := F) c 4 ∗ snt (F := F) c 5)
      ⊢ iprop((iprop(owing (F := F) c 0 ∗ doneS (F := F) c 1 ∗ hold c (bot mM) fullShare.left (cut rB (abf m c)) ∗ doneS (F := F) c 2 ∗ hold c (bot mM) fullShare.right.left (cut rB (abf m c)) ∗ doneS (F := F) c 3 ∗ hold c (top mM) fullShare.right.left (cut rT (abf m c)) ∗ doneS (F := F) c 4 ∗ hold c (qa lM) fullShare.left (cut rQ0 (abf m (prv c))) ∗ doneS (F := F) c 5 ∗ hold c (qb lM) fullShare.left (cut rQ1 (abf m (prv c)))) -∗ Q ⟨⟩)
          -∗ run c (k0_part14 aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8) Q) := by
  rw [k0_part14_eq_skeleton]; unfold k0_part14_skel
  simp only [semSignalWord, semWaitWord, Prog.lift, Prog.bind_op, Prog.bind_ret, Prog.pure_eq_ret, Prog.bind_assoc, run, wp_deviceId]
  iintro ⟨#HR, HO, S1, S2, S3, S4, S5⟩ Hk
  iapply (run_sent m K c 1 (sendS_eq 1 _) (dst := bot mM) rfl (hold c (bot mM) fullShare.left (cut rB (abf m c))) rfl) $$ [HO S1]
  · isplitr; · iexact HR
    isplitl [HO]; · iexact HO
    iexact S1
  iintro ⟨HO, S1, B1⟩
  iapply (run_sent m K c 2 (sendS_eq 2 _) (dst := bot mM) rfl (hold c (bot mM) fullShare.right.left (cut rB (abf m c))) rfl) $$ [HO S2]
  · isplitr; · iexact HR
    isplitl [HO]; · iexact HO
    iexact S2
  iintro ⟨HO, S2, B2⟩
  iapply (run_sent m K c 3 (sendS_eq 3 _) (dst := top mM) rfl (hold c (top mM) fullShare.right.left (cut rT (abf m c))) rfl) $$ [HO S3]
  · isplitr; · iexact HR
    isplitl [HO]; · iexact HO
    iexact S3
  iintro ⟨HO, S3, B3⟩
  iapply (run_sent m K c 4 (sendS_eq 4 _) (dst := qa lM) rfl (hold c (qa lM) fullShare.left (cut rQ0 (abf m (prv c)))) rfl) $$ [HO S4]
  · isplitr; · iexact HR
    isplitl [HO]; · iexact HO
    iexact S4
  iintro ⟨HO, S4, B4⟩
  iapply (run_sent m K c 5 (sendS_eq 5 _) (dst := qb lM) rfl (hold c (qb lM) fullShare.left (cut rQ1 (abf m (prv c)))) rfl) $$ [HO S5]
  · isplitr; · iexact HR
    isplitl [HO]; · iexact HO
    iexact S5
  iintro ⟨HO, S5, B5⟩
  iapply (run_ret c)
  iapply Hk
  isplitl [HO]; · iexact HO
  isplitl [S1]; · iexact S1
  isplitl [B1]; · iexact B1
  isplitl [S2]; · iexact S2
  isplitl [B2]; · iexact B2
  isplitl [S3]; · iexact S3
  isplitl [B3]; · iexact B3
  isplitl [S4]; · iexact S4
  isplitl [B4]; · iexact B4
  isplitl [S5]; · iexact S5
  iexact B5

/-- What a device's run of the body starts with: the kernel's buffers (each of the two blocks staged, the scratch in its
    pieces, the result in its row blocks), its position in the schedule and its tokens. -/
def bodyStart (c : Dev nD) : sProp 𝕄 :=
  iprop(records m K ∗ levAts L lv ∗ owing (F := F) c (O₀ c)
    ∗ (dutyTok ER (barCell (prv c)) 0 true ∗ dutyTok ER (barCell (nxt c)) 0 false ∗ atPos ER (barCell c) 0 ∅ 0 ∗ cred (tallyAt (barCell c) () 2))
    ∗ (snd (F := F) c 0 ∗ snd (F := F) c 1 ∗ snd (F := F) c 2 ∗ snd (F := F) c 3 ∗ snd (F := F) c 4 ∗ snd (F := F) c 5 ∗ snd (F := F) c 6 ∗ snd (F := F) c 7)
    ∗ (rcv (F := F) c 0 ∗ rcv (F := F) c 1 ∗ rcv (F := F) c 2 ∗ rcv (F := F) c 3 ∗ rcv (F := F) c 4 ∗ rcv (F := F) c 5 ∗ rcv (F := F) c 6 ∗ rcv (F := F) c 7)
    ∗ (spot (F := F) c 0 o0 (w0 c) ∗ spot (F := F) c 1 o1 (w1 c) ∗ spot (F := F) c 2 o2 (w2 c) ∗ spot (F := F) c 3 o3 (w3 c) ∗ spot (F := F) c 4 o4 (w4 c) ∗ spot (F := F) c 5 o5 (w5 c) ∗ spot (F := F) c 6 o6 (w6 c) ∗ spot (F := F) c 7 o7 (w7 c) ∗ spot (F := F) c 8 o8 (w8 c) ∗ spot (F := F) c 9 o9 (w9 c))
    ∗ slotsL (F := F) c ∗ slotsR (F := F) c ∗ free (F := F) c mM ∗ free (F := F) c bM
    ∗ hold c aM fullShare (aStg m c) ∗ hold c bsM fullShare (bStg m c))

/-- The pieces of the five row buffers at the end: what the sends gave back and what the loads kept. -/
def rowsEnd (c : Dev nD) : sProp 𝕄 :=
  iprop((hold c (top mM) fullShare.left (cut rT (abf m c)) ∗ hold c (bot mM) fullShare.left (cut rB (abf m c)) ∗ hold c (bot mM) fullShare.right.left (cut rB (abf m c)) ∗ hold c (top mM) fullShare.right.left (cut rT (abf m c)) ∗ hold c (qa lM) fullShare.left (cut rQ0 (abf m (prv c))) ∗ hold c (qb lM) fullShare.left (cut rQ1 (abf m (prv c))) ∗ hold c (qc rM) fullShare.left (cut rQ2 (abf m (nxt c))) ∗ hold c (qd rM) fullShare.left (cut rQ3 (abf m (nxt c))))
    ∗ hold c (top mM) fullShare.right.right (cut rT (abf m c)) ∗ hold c (bot mM) fullShare.right.right (cut rB (abf m c)) ∗ hold c (top lM) fullShare.right (cut rT (abf m (prv c))) ∗ hold c (bot rM) fullShare.right (cut rB (abf m (nxt c))) ∗ hold c (bot lM) fullShare (cut rB (abf m (prv c))) ∗ hold c (top rM) fullShare (cut rT (abf m (nxt c))) ∗ hold c (qa dM) fullShare (cut rQ0 (abf m (opp c))) ∗ hold c (qb dM) fullShare (cut rQ1 (abf m (opp c))) ∗ hold c (qc dM) fullShare (cut rQ2 (abf m (opp c))) ∗ hold c (qd dM) fullShare (cut rQ3 (abf m (opp c))))

/-- And what it ends with: nothing owed, every semaphore at zero, every row block of the result holding its product. -/
def bodyEnd (c : Dev nD) : sProp 𝕄 :=
  iprop(owing (F := F) c 0 ∗ semVal (barCell c) 0
    ∗ (doneS (F := F) c 0 ∗ doneS (F := F) c 1 ∗ doneS (F := F) c 2 ∗ doneS (F := F) c 3 ∗ doneS (F := F) c 4 ∗ doneS (F := F) c 5 ∗ doneS (F := F) c 6 ∗ doneS (F := F) c 7)
    ∗ (doneR (F := F) c 0 ∗ doneR (F := F) c 1 ∗ doneR (F := F) c 2 ∗ doneR (F := F) c 3 ∗ doneR (F := F) c 4 ∗ doneR (F := F) c 5 ∗ doneR (F := F) c 6 ∗ doneR (F := F) c 7)
    ∗ (back c 0 o0 (w0 c) (z0 m c) ∗ back c 1 o1 (w1 c) (z1 m c) ∗ back c 2 o2 (w2 c) (z2 m c) ∗ back c 3 o3 (w3 c) (z3 m c) ∗ back c 4 o4 (w4 c) (z4 m c) ∗ back c 5 o5 (w5 c) (z5 m c) ∗ back c 6 o6 (w6 c) (z6 m c) ∗ back c 7 o7 (w7 c) (z7 m c) ∗ back c 8 o8 (w8 c) (z8 m c) ∗ back c 9 o9 (w9 c) (z9 m c))
    ∗ rowsEnd m c ∗ hold c bM fullShare (bbf m c)
    ∗ hold c aM fullShare (aStg m c) ∗ hold c bsM fullShare (bStg m c))

/-- **THE BODY** runs from the one to the other. -/
theorem body_run (c : Dev nD) {Q : PUnit → sProp (MT nD τ sig Unit (Elt F) ℕ UU ℕ)} :
    bodyStart m K c ⊢ iprop((bodyEnd m c -∗ Q ⟨⟩) -∗ run c (cc0_body aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8) Q) := by
  rw [cc0_body_eq_skeleton]; unfold cc0_body_skel bodyStart bodyEnd rowsEnd
  simp only [Prog.lift, Prog.bind_op, Prog.bind_ret, Prog.pure_eq_ret, Prog.bind_assoc]
  iintro ⟨#HR, #HL, HO, ⟨HT, HF, Hat, Hc⟩, ⟨S0, S1, S2, S3, S4, S5, S6, S7⟩, ⟨V0, V1, V2, V3, V4, V5, V6, V7⟩, ⟨O0, O1, O2, O3, O4, O5, O6, O7, O8, O9⟩, HSL, HSR, HM, Hb, HA, Hs⟩ Hk
  iapply (run_bind c)
  iapply (part1 m K c) $$ [HO HT HF HSL HSR HA]
  · isplitr; · iexact HR
    isplitl [HO]; · iexact HO
    isplitl [HT]; · iexact HT
    isplitl [HF]; · iexact HF
    isplitl [HSL]; · iexact HSL
    isplitl [HSR]; · iexact HSR
    iexact HA
  iintro %v2 %v13 %v24 ⟨HO, HA⟩
  iapply (run_bind c)
  iapply (part2 m K c _ _) $$ [HO Hat Hc HM S0 S1 S2]
  · isplitr; · iexact HR
    isplitr; · iexact HL
    isplitl [HO]; · iexact HO
    isplitl [Hat]; · iexact Hat
    isplitl [Hc]; · iexact Hc
    isplitl [HM]; · iexact HM
    isplitl [S0]; · iexact S0
    isplitl [S1]; · iexact S1
    iexact S2
  iintro ⟨HO, Hbar, Hslots, rT, S0, S1, S2, HT, HB⟩
  unfold slots3; icases Hslots with ⟨dA, dB, dC, dD⟩
  iapply (run_bind c)
  iapply (part3 m K c _ _) $$ [HO S3 rT HT Hs Hb O0]
  · isplitr; · iexact HR
    isplitr; · iexact HL
    isplitl [HO]; · iexact HO
    isplitl [S3]; · iexact S3
    isplitl [rT]; · iexact rT
    isplitl [HT]; · iexact HT
    isplitl [Hs]; · iexact Hs
    isplitl [Hb]; · iexact Hb
    iexact O0
  iintro ⟨HO, S3, HT, Hs, Hb, O0⟩
  iapply (run_bind c)
  iapply (part4 m K c _ _) $$ [HO HB Hb O1 V0 S4 dA]
  · isplitr; · iexact HR
    isplitr; · iexact HL
    isplitl [HO]; · iexact HO
    isplitl [HB]; · iexact HB
    isplitl [Hb]; · iexact Hb
    isplitl [O1]; · iexact O1
    isplitl [V0]; · iexact V0
    isplitl [S4]; · iexact S4
    iexact dA
  iintro ⟨HO, HB, Hb, O1, V0, S4, HL0, Hq⟩
  iapply (run_bind c)
  iapply (part5 m K c _ _) $$ [HO S5 Hq dB HL0 Hb O2]
  · isplitr; · iexact HR
    isplitl [HO]; · iexact HO
    isplitl [S5]; · iexact S5
    isplitl [Hq]; · iexact Hq
    isplitl [dB]; · iexact dB
    isplitl [HL0]; · iexact HL0
    isplitl [Hb]; · iexact Hb
    iexact O2
  iintro ⟨HO, S5, HL0, Hb, O2⟩
  ihave P3 := (spot_open c 3 o3 (w3 c)) $$ O3; icases P3 with ⟨O3, W3, I3⟩
  ihave P7 := (spot_open c 7 o7 (w7 c)) $$ O7; icases P7 with ⟨O7, W7, I7⟩
  ihave P8 := (spot_open c 8 o8 (w8 c)) $$ O8; icases P8 with ⟨O8, W8, I8⟩
  iapply (run_bind c)
  iapply (part6 m K c _ _) $$ [HO V1 S6 S7 dC dD Hb O3]
  · isplitr; · iexact HR
    isplitr; · iexact HL
    isplitl [HO]; · iexact HO
    isplitl [V1]; · iexact V1
    isplitl [S6]; · iexact S6
    isplitl [S7]; · iexact S7
    isplitl [dC]; · iexact dC
    isplitl [dD]; · iexact dD
    isplitl [Hb]; · iexact Hb
    iexact O3
  iintro ⟨HO, V1, S6, S7, HR1, Hb, O3⟩
  iapply (run_bind c)
  iapply (part7 m K c _ _) $$ [HO O3 W3 I3 V2 Hb O4]
  · isplitr; · iexact HR
    isplitr; · iexact HL
    isplitl [HO]; · iexact HO
    isplitl [O3]; · iexact O3
    isplitl [W3]; · iexact W3
    isplitl [I3]; · iexact I3
    isplitl [V2]; · iexact V2
    isplitl [Hb]; · iexact Hb
    iexact O4
  iintro ⟨HO, O3, V2, HL2, Hb, O4⟩
  iapply (run_bind c)
  iapply (part8 m K c _ _) $$ [HO V3 Hb O5]
  · isplitr; · iexact HR
    isplitr; · iexact HL
    isplitl [HO]; · iexact HO
    isplitl [V3]; · iexact V3
    isplitl [Hb]; · iexact Hb
    iexact O5
  iintro %v218 ⟨HO, V3, HR3, Hb, O5⟩
  iapply (run_bind c)
  iapply (part9 m K c _ _) $$ [HO V4 V5 Hb O6]
  · isplitr; · iexact HR
    isplitr; · iexact HL
    isplitl [HO]; · iexact HO
    isplitl [V4]; · iexact V4
    isplitl [V5]; · iexact V5
    isplitl [Hb]; · iexact Hb
    iexact O6
  iintro ⟨HO, V4, V5, D4, D5, Hb, O6⟩
  iapply (run_bind c)
  iapply (part10 m K c _ _) $$ [HO O7 W7 I7 V6 Hb O8]
  · isplitr; · iexact HR
    isplitr; · iexact HL
    isplitl [HO]; · iexact HO
    isplitl [O7]; · iexact O7
    isplitl [W7]; · iexact W7
    isplitl [I7]; · iexact I7
    isplitl [V6]; · iexact V6
    isplitl [Hb]; · iexact Hb
    iexact O8
  iintro ⟨HO, O7, V6, D6, Hb, O8⟩
  iapply (run_bind c)
  iapply (part11 m K c _ _) $$ [HO O8 W8 I8 V7 Hb O9]
  · isplitr; · iexact HR
    isplitr; · iexact HL
    isplitl [HO]; · iexact HO
    isplitl [O8]; · iexact O8
    isplitl [W8]; · iexact W8
    isplitl [I8]; · iexact I8
    isplitl [V7]; · iexact V7
    isplitl [Hb]; · iexact Hb
    iexact O9
  iintro ⟨HO, O8, V7, D7, Hb, O9⟩
  rw [OR_8]
  iapply (run_bind c)
  iapply (part12 m c) $$ [HO O0 O1 O2 O3 O4 O5]
  · isplitl [HO]; · iexact HO
    isplitl [O0]; · iexact O0
    isplitl [O1]; · iexact O1
    isplitl [O2]; · iexact O2
    isplitl [O3]; · iexact O3
    isplitl [O4]; · iexact O4
    iexact O5
  iintro ⟨HO, O0, O1, O2, O3, O4, O5⟩
  iapply (run_bind c)
  iapply (part13 m K c) $$ [HO O6 O7 O8 O9 S0]
  · isplitr; · iexact HR
    isplitl [HO]; · iexact HO
    isplitl [O6]; · iexact O6
    isplitl [O7]; · iexact O7
    isplitl [O8]; · iexact O8
    isplitl [O9]; · iexact O9
    iexact S0
  iintro ⟨HO, O6, O7, O8, O9, S0, B0⟩
  iapply (run_bind c)
  iapply (part14 m K c) $$ [HO S1 S2 S3 S4 S5]
  · isplitr; · iexact HR
    isplitl [HO]; · iexact HO
    isplitl [S1]; · iexact S1
    isplitl [S2]; · iexact S2
    isplitl [S3]; · iexact S3
    isplitl [S4]; · iexact S4
    iexact S5
  iintro ⟨HO, S1, B1, S2, B2, S3, B3, S4, B4, S5, B5⟩
  iapply (run_sent m K c 6 (sendS_eq 6 _) (dst := qc rM) rfl (hold c (qc rM) fullShare.left (cut rQ2 (abf m (nxt c)))) rfl) $$ [HO S6]
  · isplitr; · iexact HR
    isplitl [HO]; · iexact HO
    iexact S6
  iintro ⟨HO, S6, B6⟩
  iapply (run_sent m K c 7 (sendS_eq 7 _) (dst := qd rM) rfl (hold c (qd rM) fullShare.left (cut rQ3 (abf m (nxt c)))) rfl) $$ [HO S7]
  · isplitr; · iexact HR
    isplitl [HO]; · iexact HO
    iexact S7
  iintro ⟨HO, S7, B7⟩
  iapply (run_ret c)
  iapply Hk
  isplitl [HO]; · iexact HO
  isplitl [Hbar]; · iexact Hbar
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  isplitl [O0 O1 O2 O3 O4 O5 O6 O7 O8 O9]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  isplitl [B0 B1 B2 B3 B4 B5 B6 B7 HT HB HL0 HR1 HL2 HR3 D4 D5 D6 D7]
  · isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [HT]; · iexact HT
    isplitl [HB]; · iexact HB
    isplitl [HL0]; · iexact HL0
    isplitl [HR1]; · iexact HR1
    isplitl [HL2]; · iexact HL2
    isplitl [HR3]; · iexact HR3
    isplitl [D4]; · iexact D4
    isplitl [D5]; · iexact D5
    isplitl [D6]; · iexact D6
    iexact D7
  isplitl [Hb]; · iexact Hb
  isplitl [HA] <;> iassumption

end Cert.RingProof
end
-- ==== Proof.Enter.lean ====
/-
# What the kernel starts with and what it leaves, as whole buffers

Each buffer the kernel is handed is cut into the pieces the body works on; at the end the pieces are put together again.
-/
module

public import proofs.«01_k».proof.Proof.Body2

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem eight {M : Type} [URA M] (Φ : Fin 8 → sProp M) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

/-! ## A row buffer in pieces -/

/-- A buffer at some contents, as its whole memref. -/
theorem whole_free (c : Dev nD) (b : Ref sig .tc) :
    (free (F := F) c (Memref.whole b) : sProp 𝕄) = iprop(∃ f : Buf (Elt F) ((c : Thread nD τ).loc b), ((c : Thread nD τ).loc b) ↦{fullShare} f) := by
  unfold free hold
  refine eq_of ?_ ?_
  · iintro ⟨%X, H⟩
    ihave H := (BI.BIBase.Entails.of_eq (owns_whole_eq (c : Thread nD τ) b fullShare X)) $$ H
    icases H with ⟨%f, %hf, H⟩
    iexists f; iexact H
  · iintro ⟨%f, H⟩
    iexists f
    iapply (BI.BIBase.Entails.of_eq (owns_whole_eq (c : Thread nD τ) b fullShare f).symm)
    iexists f; isplitr; · (ipureintro; rfl)
    iexact H

include m in
/-- A free row buffer, as its two halves; -/
theorem free_halves (c : Dev nD) (M : Memref sig .tc .vmem S1024x512 .bf16) :
    free (F := F) c M ⊢ (iprop(free (F := F) c (top M) ∗ free (F := F) c (bot M)) : sProp 𝕄) := by
  unfold free
  iintro ⟨%X, H⟩
  ihave H := (BI.BIBase.Entails.of_eq (hold_TB c M fullShare X)) $$ H
  icases H with ⟨H1, H2⟩
  isplitl [H1]
  · iexists _; iexact H1
  · iexists _; iexact H2
include m in
/-- and as its four quarters. -/
theorem free_quarters (c : Dev nD) (M : Memref sig .tc .vmem S1024x512 .bf16) :
    free (F := F) c M ⊢ (iprop(free (F := F) c (qa M) ∗ free (F := F) c (qb M) ∗ free (F := F) c (qc M) ∗ free (F := F) c (qd M)) : sProp 𝕄) := by
  unfold free
  iintro ⟨%X, H⟩
  ihave H := (BI.BIBase.Entails.of_eq (hold_TB c M fullShare X)) $$ H
  icases H with ⟨H1, H2⟩
  ihave H1 := (BI.BIBase.Entails.of_eq (hold_T m c M fullShare X)) $$ H1
  ihave H2 := (BI.BIBase.Entails.of_eq (hold_B m c M fullShare X)) $$ H2
  icases H1 with ⟨Ha, Hb⟩
  icases H2 with ⟨Hc, Hd⟩
  isplitl [Ha]; · iexists _; iexact Ha
  isplitl [Hb]; · iexists _; iexact Hb
  isplitl [Hc]; · iexists _; iexact Hc
  iexists _; iexact Hd
include m in
/-- Back together: the two halves of one block's rows. -/
theorem halves_free (c : Dev nD) (M : Memref sig .tc .vmem S1024x512 .bf16) (X : S1024x512.Idx → Elt F .bf16) :
    iprop(hold c (top M) fullShare (cut rT X) ∗ hold c (bot M) fullShare (cut rB X)) ⊢ (free (F := F) c M : sProp 𝕄) :=
  (BI.BIBase.Entails.of_eq (hold_TB c M fullShare X).symm).trans (free_intro c M X)

/-- A piece given out in three shares, whole again. -/
theorem three_join (c : Dev nD) {s : Shape} (N : Memref sig .tc .vmem s .bf16) (Y : s.Idx → Elt F .bf16) :
    iprop(hold c N fullShare.left Y ∗ hold c N fullShare.right.left Y ∗ hold c N fullShare.right.right Y) ⊢ (hold c N fullShare Y : sProp 𝕄) := by
  iintro ⟨H1, H2, H3⟩
  iapply (hold_join c fullShare N Y)
  isplitl [H1]; · iexact H1
  iapply (hold_join c fullShare.right N Y)
  isplitl [H2] <;> iassumption

/-- The pieces left at the end are the five row buffers. -/
theorem rows_exit (c : Dev nD) :
    rowsEnd m c ⊢ (iprop(free (F := F) c mM ∗ free (F := F) c lM ∗ free (F := F) c rM ∗ free (F := F) c dM) : sProp 𝕄) := by
  unfold rowsEnd
  iintro ⟨⟨B0, B1, B2, B3, B4, B5, B6, B7⟩, MT, MB, LT, RB, LB, RT, Da, Db, Dc, Dd⟩
  isplitl [B0 B1 B2 B3 MT MB]
  · iapply (halves_free m c mM (abf m c))
    isplitl [B0 B3 MT]
    · iapply (three_join c (top mM) (cut rT (abf m c)))
      isplitl [B0]; · iexact B0
      isplitl [B3] <;> iassumption
    · iapply (three_join c (bot mM) (cut rB (abf m c)))
      isplitl [B1]; · iexact B1
      isplitl [B2] <;> iassumption
  isplitl [B4 B5 LT LB]
  · iapply (halves_free m c lM (abf m (prv c)))
    isplitl [B4 B5 LT]
    · iapply (hold_join c fullShare (top lM) (cut rT (abf m (prv c))))
      isplitl [B4 B5]
      · iapply (BI.BIBase.Entails.of_eq (hold_T m c lM fullShare.left (abf m (prv c))).symm)
        isplitl [B4] <;> iassumption
      · iexact LT
    · iexact LB
  isplitl [B6 B7 RB RT]
  · iapply (halves_free m c rM (abf m (nxt c)))
    isplitl [RT]; · iexact RT
    iapply (hold_join c fullShare (bot rM) (cut rB (abf m (nxt c))))
    isplitl [B6 B7]
    · iapply (BI.BIBase.Entails.of_eq (hold_B m c rM fullShare.left (abf m (nxt c))).symm)
      isplitl [B6] <;> iassumption
    · iexact RB
  iapply (halves_free m c dM (abf m (opp c)))
  isplitl [Da Db]
  · iapply (BI.BIBase.Entails.of_eq (hold_T m c dM fullShare (abf m (opp c))).symm)
    isplitl [Da] <;> iassumption
  · iapply (BI.BIBase.Entails.of_eq (hold_B m c dM fullShare (abf m (opp c))).symm)
    isplitl [Dc] <;> iassumption

/-! ## The accumulator and the result in their ten pieces -/

/-- What the ten copies out of the accumulator need. -/
theorem spots_enter (c : Dev nD) :
    iprop((∃ f : Buf (Elt F) ((c : Thread nD τ).loc cc0_scratch5), ((c : Thread nD τ).loc cc0_scratch5) ↦{fullShare} f)
        ∗ (∃ f : Buf (Elt F) ((c : Thread nD τ).loc main_v1), ((c : Thread nD τ).loc main_v1) ↦{fullShare} f)
        ∗ bigSep Finset.univ fun p => idle (F := F) c p)
      ⊢ (iprop(spot (F := F) c 0 o0 (w0 c) ∗ spot (F := F) c 1 o1 (w1 c) ∗ spot (F := F) c 2 o2 (w2 c) ∗ spot (F := F) c 3 o3 (w3 c) ∗ spot (F := F) c 4 o4 (w4 c) ∗ spot (F := F) c 5 o5 (w5 c) ∗ spot (F := F) c 6 o6 (w6 c) ∗ spot (F := F) c 7 o7 (w7 c) ∗ spot (F := F) c 8 o8 (w8 c) ∗ spot (F := F) c 9 o9 (w9 c)) : sProp 𝕄) := by
  rw [ten]
  iintro ⟨⟨%f, HA⟩, ⟨%g, HV⟩, I0, I1, I2, I3, I4, I5, I6, I7, I8, I9⟩
  ihave HA := (acc_split c f) $$ HA
  ihave HV := (res_split c g) $$ HV
  icases HA with ⟨A0, A1, A2, A3, A4, A5, A6, A7, A8, A9⟩
  icases HV with ⟨V0, V1, V2, V3, V4, V5, V6, V7, V8, V9⟩
  unfold spot
  isplitl [A0 V0 I0]
  · isplitl [A0]; · iexact A0
    isplitl [V0] <;> iassumption
  isplitl [A1 V1 I1]
  · isplitl [A1]; · iexact A1
    isplitl [V1] <;> iassumption
  isplitl [A2 V2 I2]
  · isplitl [A2]; · iexact A2
    isplitl [V2] <;> iassumption
  isplitl [A3 V3 I3]
  · isplitl [A3]; · iexact A3
    isplitl [V3] <;> iassumption
  isplitl [A4 V4 I4]
  · isplitl [A4]; · iexact A4
    isplitl [V4] <;> iassumption
  isplitl [A5 V5 I5]
  · isplitl [A5]; · iexact A5
    isplitl [V5] <;> iassumption
  isplitl [A6 V6 I6]
  · isplitl [A6]; · iexact A6
    isplitl [V6] <;> iassumption
  isplitl [A7 V7 I7]
  · isplitl [A7]; · iexact A7
    isplitl [V7] <;> iassumption
  isplitl [A8 V8 I8]
  · isplitl [A8]; · iexact A8
    isplitl [V8] <;> iassumption
  isplitl [A9]; · iexact A9
  isplitl [V9] <;> iassumption

/-- And what they leave: the accumulator, the result written, the copies' semaphores at zero. -/
theorem backs_exit (c : Dev nD) :
    iprop(back c 0 o0 (w0 c) (z0 m c) ∗ back c 1 o1 (w1 c) (z1 m c) ∗ back c 2 o2 (w2 c) (z2 m c) ∗ back c 3 o3 (w3 c) (z3 m c) ∗ back c 4 o4 (w4 c) (z4 m c) ∗ back c 5 o5 (w5 c) (z5 m c) ∗ back c 6 o6 (w6 c) (z6 m c) ∗ back c 7 o7 (w7 c) (z7 m c) ∗ back c 8 o8 (w8 c) (z8 m c) ∗ back c 9 o9 (w9 c) (z9 m c))
      ⊢ (iprop((∃ f : Buf (Elt F) ((c : Thread nD τ).loc cc0_scratch5), ((c : Thread nD τ).loc cc0_scratch5) ↦{fullShare} f)
        ∗ (∃ g, ⌜Written m c g⌝ ∗ ((c : Thread nD τ).loc main_v1 ↦{fullShare} g))
        ∗ bigSep Finset.univ fun p => idle (F := F) c p) : sProp 𝕄) := by
  rw [ten]; unfold back
  iintro ⟨⟨V0, A0, I0⟩, ⟨V1, A1, I1⟩, ⟨V2, A2, I2⟩, ⟨V3, A3, I3⟩, ⟨V4, A4, I4⟩, ⟨V5, A5, I5⟩, ⟨V6, A6, I6⟩, ⟨V7, A7, I7⟩, ⟨V8, A8, I8⟩, ⟨V9, A9, I9⟩⟩
  isplitl [A0 A1 A2 A3 A4 A5 A6 A7 A8 A9]
  · iapply (acc_join m c)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [V0 V1 V2 V3 V4 V5 V6 V7 V8 V9]
  · iapply (res_join m c)
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    iexact V9
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  iexact I9

/-! ## Before the body and after it -/

/-- What the launch hands device `c`, apart from its scoped buffers: the schedule's records, the tokens of its signals and
    sends, its positions and credits, the copies' semaphores, and the result. -/
def start (c : Dev nD) : sProp 𝕄 :=
  iprop((∃ K, records m K ∗ (dutyTok ER (barCell (prv c)) 0 true ∗ dutyTok ER (barCell (nxt c)) 0 false ∗ atPos ER (barCell c) 0 ∅ 0)
      ∗ (bigSep Finset.univ fun i => snd (F := F) c i) ∗ (bigSep Finset.univ fun i => atPos ER (vCell c i) 0 ∅ 0)
      ∗ bigSep Finset.univ fun p => idle (F := F) c p)
    ∗ levAts L lv ∗ cred (tallyAt (barCell c) () 2) ∗ (bigSep Finset.univ fun i => cred (tallyAt (vCell c i) () (amt i)))
    ∗ (∃ f : Buf (Elt F) ((c : Thread nD τ).loc main_v1), ((c : Thread nD τ).loc main_v1) ↦{fullShare} f))

/-- The body's resources but for what it owes and the two staged operands, before it -/
def Φ₀ (c : Dev nD) : sProp 𝕄 :=
  iprop(∃ K, records m K ∗ levAts L lv
    ∗ (dutyTok ER (barCell (prv c)) 0 true ∗ dutyTok ER (barCell (nxt c)) 0 false ∗ atPos ER (barCell c) 0 ∅ 0 ∗ cred (tallyAt (barCell c) () 2))
    ∗ (snd (F := F) c 0 ∗ snd (F := F) c 1 ∗ snd (F := F) c 2 ∗ snd (F := F) c 3 ∗ snd (F := F) c 4 ∗ snd (F := F) c 5 ∗ snd (F := F) c 6 ∗ snd (F := F) c 7)
    ∗ (rcv (F := F) c 0 ∗ rcv (F := F) c 1 ∗ rcv (F := F) c 2 ∗ rcv (F := F) c 3 ∗ rcv (F := F) c 4 ∗ rcv (F := F) c 5 ∗ rcv (F := F) c 6 ∗ rcv (F := F) c 7)
    ∗ (spot (F := F) c 0 o0 (w0 c) ∗ spot (F := F) c 1 o1 (w1 c) ∗ spot (F := F) c 2 o2 (w2 c) ∗ spot (F := F) c 3 o3 (w3 c) ∗ spot (F := F) c 4 o4 (w4 c) ∗ spot (F := F) c 5 o5 (w5 c) ∗ spot (F := F) c 6 o6 (w6 c) ∗ spot (F := F) c 7 o7 (w7 c) ∗ spot (F := F) c 8 o8 (w8 c) ∗ spot (F := F) c 9 o9 (w9 c))
    ∗ slotsL (F := F) c ∗ slotsR (F := F) c ∗ free (F := F) c mM ∗ free (F := F) c bM)

/-- and after it. -/
def Φ₁ (c : Dev nD) : sProp 𝕄 :=
  iprop(semVal (barCell c) 0
    ∗ (doneS (F := F) c 0 ∗ doneS (F := F) c 1 ∗ doneS (F := F) c 2 ∗ doneS (F := F) c 3 ∗ doneS (F := F) c 4 ∗ doneS (F := F) c 5 ∗ doneS (F := F) c 6 ∗ doneS (F := F) c 7)
    ∗ (doneR (F := F) c 0 ∗ doneR (F := F) c 1 ∗ doneR (F := F) c 2 ∗ doneR (F := F) c 3 ∗ doneR (F := F) c 4 ∗ doneR (F := F) c 5 ∗ doneR (F := F) c 6 ∗ doneR (F := F) c 7)
    ∗ (back c 0 o0 (w0 c) (z0 m c) ∗ back c 1 o1 (w1 c) (z1 m c) ∗ back c 2 o2 (w2 c) (z2 m c) ∗ back c 3 o3 (w3 c) (z3 m c) ∗ back c 4 o4 (w4 c) (z4 m c) ∗ back c 5 o5 (w5 c) (z5 m c) ∗ back c 6 o6 (w6 c) (z6 m c) ∗ back c 7 o7 (w7 c) (z7 m c) ∗ back c 8 o8 (w8 c) (z8 m c) ∗ back c 9 o9 (w9 c) (z9 m c))
    ∗ rowsEnd m c ∗ hold c bM fullShare (bbf m c))

/-- The whole buffers are what the body starts with. -/
theorem enter (c : Dev nD) : iprop(start m c ∗ Pipeline.scopedRest cfg0.spec c) ⊢ (Φ₀ m c : sProp 𝕄) := by
  rw [scopedRest0_eq]
  unfold start Φ₀
  rw [← whole_free c cc0_scratch0, ← whole_free c cc0_scratch1, ← whole_free c cc0_scratch2, ← whole_free c cc0_scratch3, ← whole_free c cc0_scratch4]
  iintro ⟨⟨⟨%K, HR, ⟨HT, HF, Hat⟩, HS, HV, HI⟩, HL, Hb, HC, Hres⟩, HM, HB, HLf, HRt, HD, HA⟩
  ihave Hs := (spots_enter c) $$ [HA Hres HI]
  · isplitl [HA]; · iexact HA
    isplitl [Hres] <;> iassumption
  ihave HLf := (free_halves m c lM) $$ HLf
  icases HLf with ⟨L1, L2⟩
  ihave HRt := (free_halves m c rM) $$ HRt
  icases HRt with ⟨R1, R2⟩
  ihave HD := (free_quarters m c dM) $$ HD
  icases HD with ⟨D1, D2, D3, D4⟩
  iexists K
  isplitl [HR]; · iexact HR
  isplitl [HL]; · iexact HL
  isplitl [HT HF Hat Hb]
  · isplitl [HT]; · iexact HT
    isplitl [HF]; · iexact HF
    isplitl [Hat] <;> iassumption
  isplitl [HS]
  · iapply (BI.BIBase.Entails.of_eq (eight fun i => snd (F := F) c i)); iexact HS
  isplitl [HV HC]
  · iapply (BI.BIBase.Entails.of_eq ((bigSep_sep' Finset.univ (fun i => (atPos ER (vCell c i) 0 ∅ 0 : sProp 𝕄)) fun i => cred (tallyAt (vCell c i) () (amt i))).symm.trans
      (eight fun i => rcv (F := F) c i)))
    isplitl [HV] <;> iassumption
  isplitl [Hs]; · iexact Hs
  isplitl [L1 L2 D1 D2]
  · unfold slotsL
    isplitl [L1]; · iexact L1
    isplitl [L2]; · iexact L2
    isplitl [D1] <;> iassumption
  isplitl [R1 R2 D3 D4]
  · unfold slotsR
    isplitl [R1]; · iexact R1
    isplitl [R2]; · iexact R2
    isplitl [D3] <;> iassumption
  isplitl [HM] <;> iassumption

/-- And it ends with whole buffers again, the result's rows written. -/
theorem leave (c : Dev nD) :
    Φ₁ m c ⊢ (iprop(semVal (barCell c) 0 ∗ (bigSep Finset.univ fun i => doneS (F := F) c i) ∗ (bigSep Finset.univ fun i => doneR (F := F) c i)
      ∗ (bigSep Finset.univ fun p => idle (F := F) c p) ∗ (∃ g, ⌜Written m c g⌝ ∗ ((c : Thread nD τ).loc main_v1 ↦{fullShare} g))
      ∗ Pipeline.scopedRest cfg0.spec c) : sProp 𝕄) := by
  rw [scopedRest0_eq]
  unfold Φ₁
  rw [← whole_free c cc0_scratch0, ← whole_free c cc0_scratch1, ← whole_free c cc0_scratch2, ← whole_free c cc0_scratch3, ← whole_free c cc0_scratch4]
  iintro ⟨Hb, HS, HV, HB, HR, HBb⟩
  ihave HB := (backs_exit m c) $$ HB
  icases HB with ⟨HA, Hres, HI⟩
  ihave HR := (rows_exit m c) $$ HR
  icases HR with ⟨HM, HL, HRt, HD⟩
  isplitl [Hb]; · iexact Hb
  isplitl [HS]
  · iapply (BI.BIBase.Entails.of_eq (eight fun i => doneS (F := F) c i).symm); iexact HS
  isplitl [HV]
  · iapply (BI.BIBase.Entails.of_eq (eight fun i => doneR (F := F) c i).symm); iexact HV
  isplitl [HI]; · iexact HI
  isplitl [Hres]; · iexact Hres
  isplitl [HM]; · iexact HM
  isplitl [HBb]; · iapply (free_intro c bM (bbf m c)); iexact HBb
  isplitl [HL]; · iexact HL
  isplitl [HRt]; · iexact HRt
  isplitl [HD] <;> iassumption

end Cert.RingProof

end
-- ==== Proof.Point.lean ====
/-
# The kernel's one grid point

The proof data of the launch's window pipeline, and the body's obligation at its one point.
-/
module

public import proofs.«01_k».proof.Proof.Enter

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the pipeline is told of device `c`: the operands as launched, each staged whole and left as it was; the body's
    resources before and after; what the device owes before, and nothing after. -/
def dats (_ : Fin 1) (c : Dev nD) : Dat τ (Elt F) Unit ℕ UU ℕ cfg0 c where
  A w := m ((cfg0.win w).arr.view.loc (c : Thread nD τ))
  after w _ := match w with
    | ⟨0, _⟩ => aStg m c
    | ⟨1, _⟩ => bStg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_a (c : Dev nD) (d) : (dats m 0 c).before (0 : Fin 2) t0_0 d = aStg m c := by
  unfold Dat.before; rw [if_pos (fetch0_0 t0_0)]; rfl
theorem before_b (c : Dev nD) (d) : (dats m 0 c).before (1 : Fin 2) t0_0 d = bStg m c := by
  unfold Dat.before; rw [if_pos (fetch0_1 t0_0)]; rfl

/-- The body at the one point, from the pipeline's resources to the pipeline's resources. -/
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc
      ∗ (∃ d, hold c aM fullShare ((dats m 0 c).before (0 : Fin 2) t0_0 d)) ∗ (∃ d, hold c bsM fullShare ((dats m 0 c).before (1 : Fin 2) t0_0 d)))
    ⊢ run c (cc0_body aM (Memref.isWhole_whole _) bsM (Memref.isWhole_whole _) vM (Memref.isWhole_whole _) mM (Memref.isWhole_whole _) bM (Memref.isWhole_whole _) lM (Memref.isWhole_whole _) rM (Memref.isWhole_whole _) dM (Memref.isWhole_whole _) oM (Memref.isWhole_whole _) cc0_scratch6 cc0_scratch7 cc0_scratch8)
        (fun _ => iprop(Φ₁ m c ∗ (dats m 0 c).owesAt () t0_0.succ ∗ hold c aM fullShare (aStg m c) ∗ hold c bsM fullShare (bStg m c)))
  unfold Φ₀ Dat.owesAt Pipeline.owesWithin
  iintro ⟨⟨%K, HR, HL, HB, HS, HV, HO, H1, H2, HM, Hb⟩, ⟨%W, %hW, Ho⟩, ⟨%d, HA⟩, ⟨%d', Hs⟩⟩
  ihave HA := (BI.BIBase.Entails.of_eq (congrArg (fun X => hold c aM fullShare X) (before_a m c d))) $$ HA
  ihave Hs := (BI.BIBase.Entails.of_eq (congrArg (fun X => hold c bsM fullShare X) (before_b m c d'))) $$ Hs
  iapply (body_run m K c) $$ [HR HL HB HS HV HO H1 H2 HM Hb Ho HA Hs]
  · unfold bodyStart
    isplitl [HR]; · iexact HR
    isplitl [HL]; · iexact HL
    isplitl [Ho]; · unfold owing; iexists W; iexact Ho
    isplitl [HB]; · iexact HB
    isplitl [HS]; · iexact HS
    isplitl [HV]; · iexact HV
    isplitl [HO]; · iexact HO
    isplitl [H1]; · iexact H1
    isplitl [H2]; · iexact H2
    isplitl [HM]; · iexact HM
    isplitl [Hb]; · iexact Hb
    isplitl [HA] <;> iassumption
  · unfold bodyEnd Φ₁ owing
    iintro ⟨⟨%W', Ho⟩, Hbar, HS, HV, HO, HR, Hb, HA, Hs⟩
    isplitl [Hbar HS HV HO HR Hb]
    · isplitl [Hbar]; · iexact Hbar
      isplitl [HS]; · iexact HS
      isplitl [HV]; · iexact HV
      isplitl [HO]; · iexact HO
      isplitl [HR] <;> iassumption
    isplitl [Ho]
    · iexists W'
      isplitr; · (ipureintro; exact fun _ _ => Or.inl trivial)
      iexact Ho
    isplitl [HA] <;> iassumption

end Cert.RingProof

end
-- ==== Proof.Setup.lean ====
/-
# Setting the mesh up

The schedule's cells are given their invariants, every device the positions of its own cells and the tokens of the signals
and sends it pays, and the credit of what the devices owe is dealt to those it is owed to.
-/
module

public import proofs.«01_k».proof.Proof.Enter

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- A device's seventeen cells: the barrier's, the eight sends', the eight receives'. -/
def cellIx : Unit ⊕ (Fin 8 ⊕ Fin 8) ≃ Fin 17 := Equiv.ofBijective (Sum.elim (fun _ => 0) (Sum.elim sIx vIx)) (by decide)

theorem seventeen {M : Type} [URA M] (Φ : Fin 17 → sProp M) :
    bigSep Finset.univ Φ = iprop(Φ 0 ∗ (bigSep Finset.univ fun i => Φ (sIx i)) ∗ bigSep Finset.univ fun i => Φ (vIx i)) := by
  rw [bigSep_univ_equiv cellIx, bigSep_univ_sum, bigSep_univ_sum, bigSep_univ_eq_bigSepL [()] (by decide) (by decide)]; rfl

/-- A property of cells over a device's seventeen, by kind. -/
theorem cells_eq {M : Type} [URA M] (c : Dev nD) (Φ : GSem nD τ sig → sProp M) :
    (bigSep Finset.univ fun k : Fin 17 => Φ (kcell (c, k)))
      = iprop(Φ (barCell c) ∗ (bigSep Finset.univ fun i => Φ (sCell c i)) ∗ bigSep Finset.univ fun i => Φ (vCell c i)) := by
  rw [seventeen fun k => Φ (kcell (c, k))]
  congr 1

theorem kcell_injective : Function.Injective (kcell : Dev nD × Fin 17 → GSem nD τ sig) := by
  have hc : Function.Injective csem := by decide +kernel
  rintro ⟨c, k⟩ ⟨c', k'⟩ h
  exact Prod.ext (congrArg (fun g : GSem nD τ sig => g.1.1) h) (hc (congrArg Prod.snd h))
def ringCells : Finset (GSem nD τ sig) := Finset.univ.map ⟨kcell, kcell_injective⟩

/-- Which of its cells' duties a token is for: the barrier's two, a send's, a receive's. -/
abbrev Tok : Type := Bool ⊕ (Fin 8 ⊕ Fin 8)
def tokSem : Tok → SemLoc sig × Bool
  | .inl b => (.reg barS, b)
  | .inr (.inl i) => (.dma (sSem i), false)
  | .inr (.inr i) => (.dma (vSem i), false)
def tokOf (ct : Dev nD × Tok) : GSem nD τ sig × ℕ × Bool := (((ct.1 : Thread nD τ), (tokSem ct.2).1), 0, (tokSem ct.2).2)
theorem tokOf_injective : Function.Injective tokOf := by
  have ht : Function.Injective tokSem := by decide +kernel
  rintro ⟨c, t⟩ ⟨c', t'⟩ h
  exact Prod.ext (congrArg (fun x : GSem nD τ sig × ℕ × Bool => x.1.1.1) h)
    (ht (Prod.ext (congrArg (fun x : GSem nD τ sig × ℕ × Bool => x.1.2) h) (congrArg (fun x : GSem nD τ sig × ℕ × Bool => x.2.2) h)))
def ringToks : Finset (GSem nD τ sig × ℕ × Bool) := Finset.univ.map ⟨tokOf, tokOf_injective⟩

/-- The launch's ghost element: the pipeline's, the schedule's, and the local copies' counters. -/
def u₀ : UU :=
  (initOf (Pipeline.cells cfgs cellOf_inj) (Pipeline.launchToks cfgs cellOf_inj), (initOf ringCells ringToks, 1))

theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-- The tokens of device `c`'s own cells. -/
def toks (c : Dev nD) : sProp 𝕄 :=
  iprop((dutyTok ER (barCell c) 0 false ∗ dutyTok ER (barCell c) 0 true)
    ∗ (bigSep Finset.univ fun i => dutyTok ER (sCell c i) 0 false) ∗ bigSep Finset.univ fun i => dutyTok ER (vCell c i) 0 false)

theorem toks_eq (c : Dev nD) : (bigSep Finset.univ fun t : Tok => dutyTok ER (tokOf (c, t)).1 (tokOf (c, t)).2.1 (tokOf (c, t)).2.2 : sProp 𝕄) = toks c := by
  rw [bigSep_univ_sum, bigSep_univ_sum, bigSep_univ_eq_bigSepL [false, true] (by decide) (by decide)]; rfl

/-- What the ghost element deals device `c`. -/
def G (c : Dev nD) : sProp 𝕄 :=
  iprop((bigSep Finset.univ fun k : Fin 17 => roundState ER (ringRd m) (kcell (c, k)) 0)
    ∗ (bigSep Finset.univ fun k : Fin 17 => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (BI.BIBase.Entails.of_eq (hX fun g => roundState ER (ringRd m) g 0)) $$ Hst
  ihave Hat' := (BI.BIBase.Entails.of_eq (hX fun g => atPos ER g 0 ∅ 0)) $$ Hat
  ihave Hr' := (BI.BIBase.Entails.of_eq (hX fun g => reached ER g 0)) $$ Hr
  ihave Htok' := (BI.BIBase.Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the sends', the receives', the copies'. -/
def osem : (Fin 8 ⊕ Fin 8) ⊕ Fin 10 → SemLoc sig
  | .inl (.inl i) => .dma (sSem i)
  | .inl (.inr i) => .dma (vSem i)
  | .inr p => .dma (cSem p)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop(((bigSep Finset.univ fun i => doneS (F := F) c i) ∗ bigSep Finset.univ fun i => doneR (F := F) c i) ∗ bigSep Finset.univ fun p => idle (F := F) c p) := by
  unfold Pipeline.ownSems0
  rw [bigSep_univ_sum, bigSep_univ_sum]; rfl
/-- The barrier's is the one semaphore of the mesh's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## One device's invariants, then the whole mesh's -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ ((bigSep Finset.univ fun k => atPos ER (kcell (c, k)) 0 ∅ 0) ∗ bigSep Finset.univ fun k => reached ER (kcell (c, k)) 0)
          ∗ toks (F := F) c ∗ bigSep Finset.univ fun p => idle (F := F) c p) := by
  unfold G
  rw [bigSep_sep', ownSems0_eq, unscopedSems0_eq]
  iintro ⟨⟨⟨HS, HV⟩, HI⟩, Hb, Hst, Hat, Htok⟩
  imod (show iprop((bigSep Finset.univ fun k : Fin 17 => semVal (kcell (c, k)) 0) ∗ bigSep Finset.univ fun k : Fin 17 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [HS HV Hb Hst] with Hinv
  · isplitr [Hst]
    · iapply (BI.BIBase.Entails.of_eq (cells_eq c fun g => (semVal g 0 : sProp 𝕄)).symm)
      isplitl [Hb]; · iexact Hb
      isplitl [HS] <;> iassumption
    · iexact Hst
  imodintro
  isplitl [Hinv]; · iexact Hinv
  isplitl [Hat]; · iexact Hat
  isplitl [Htok] <;> iassumption

/-- The tokens device `c` pays with: its two signals', its sends'. -/
def payToks (c : Dev nD) : sProp 𝕄 :=
  iprop((dutyTok ER (barCell (nxt c)) 0 false ∗ dutyTok ER (barCell (prv c)) 0 true)
    ∗ (bigSep Finset.univ fun i => dutyTok ER (sCell c i) 0 false) ∗ bigSep Finset.univ fun i => dutyTok ER (vCell (tgt i c) i) 0 false)

/-- Every send's target is a permutation of the devices: the receives' tokens, each with the device that sends. -/
def sender : Dev nD × Fin 8 ≃ Dev nD × Fin 8 :=
  ⟨fun x => (tgt x.2 x.1, x.2), fun x => (src x.2 x.1, x.2), fun x => Prod.ext (src_tgt x.2 x.1) rfl, fun x => Prod.ext (tgt_src x.2 x.1) rfl⟩

theorem toks_around : (bigSep Finset.univ fun c : Dev nD => (toks c : sProp 𝕄)) ⊢ bigSep Finset.univ fun c : Dev nD => payToks c := by
  have h := bigSep_univ_equiv sender fun x : Dev nD × Fin 8 => (dutyTok ER (vCell x.1 x.2) 0 false : sProp 𝕄)
  rw [bigSep_univ_prod, bigSep_univ_prod] at h
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄))]
  exact sep_mono .rfl (sep_mono .rfl (BI.BIBase.Entails.of_eq h))

/-- What stays with device `c` alone. -/
def own (c : Dev nD) : sProp 𝕄 :=
  iprop((bigSep Finset.univ fun k => atPos ER (kcell (c, k)) 0 ∅ 0) ∗ payToks (F := F) c ∗ bigSep Finset.univ fun p => idle (F := F) c p)

/-- What the set-up makes for device `c`. -/
def G' (c : Dev nD) : sProp 𝕄 :=
  iprop(∃ K, records m K ∗ (dutyTok ER (barCell (prv c)) 0 true ∗ dutyTok ER (barCell (nxt c)) 0 false ∗ atPos ER (barCell c) 0 ∅ 0)
      ∗ (bigSep Finset.univ fun i => snd (F := F) c i) ∗ (bigSep Finset.univ fun i => atPos ER (vCell c i) 0 ∅ 0)
      ∗ bigSep Finset.univ fun p => idle (F := F) c p)

theorem G'_intro (K : Dev nD × Fin 17 → ℕ) (c : Dev nD) : iprop(records m K ∗ own c) ⊢ (G' m c : sProp 𝕄) := by
  unfold own payToks G'
  rw [cells_eq c fun g => (atPos ER g 0 ∅ 0 : sProp 𝕄)]
  iintro ⟨HR, ⟨Hb, HS, HV⟩, ⟨⟨HF, HT⟩, HtS, HtV⟩, HI⟩
  iexists K
  isplitl [HR]; · iexact HR
  isplitl [HT HF Hb]
  · isplitl [HT]; · iexact HT
    isplitl [HF] <;> iassumption
  isplitl [HS HtS HtV]
  · unfold snd; simp only [bigSep_sep']
    isplitl [HS]; · iexact HS
    isplitl [HtS] <;> iassumption
  isplitl [HV] <;> iassumption

/-- The records are every device's. -/
theorem deal_records (K : Dev nD × Fin 17 → ℕ) :
    iprop(records m K ∗ bigSep Finset.univ fun c => own (F := F) c) ⊢ (bigSep Finset.univ (G' m) : sProp 𝕄) :=
  (sep_mono_left (BI.bigSep_of_persistent Finset.univ (records m K))).trans (by rw [← bigSep_sep']; exact bigSep_mono fun c _ => G'_intro m K c)

theorem regroup :
    (bigSep Finset.univ fun c : Dev nD => iprop((bigSep Finset.univ fun k => iprop(∃ κ : ℕ, cellInv ER (ringRd m) κ (kcell (c, k))))
          ∗ ((bigSep Finset.univ fun k => atPos ER (kcell (c, k)) 0 ∅ 0) ∗ bigSep Finset.univ fun k => reached ER (kcell (c, k)) 0)
          ∗ toks (F := F) c ∗ bigSep Finset.univ fun p => idle (F := F) c p) : sProp 𝕄)
      ⊢ bigSep Finset.univ (G' m) := by
  rw [bigSep_sep', bigSep_sep', bigSep_sep', bigSep_sep', ← bigSep_univ_prod (fun ck : Dev nD × Fin 17 => iprop(∃ κ : ℕ, cellInv ER (ringRd m) κ (kcell ck))),
    ← bigSep_univ_prod (fun ck : Dev nD × Fin 17 => (reached ER (kcell ck) 0 : sProp 𝕄))]
  iintro ⟨HI, ⟨Hat, HR⟩, Htok, Hid⟩
  ihave HK := (BI.bigSep_exists_pi Finset.univ (fun (ck : Dev nD × Fin 17) (κ : ℕ) => (cellInv ER (ringRd m) κ (kcell ck) : sProp 𝕄))) $$ HI
  icases HK with ⟨%K, HI⟩
  ihave Htk := (toks_around (F := F)) $$ Htok
  iapply (deal_records m K)
  isplitl [HI HR]
  · unfold records
    isplitl [HI] <;> iassumption
  unfold own; simp only [bigSep_sep']
  isplitl [Hat]; · iexact Hat
  isplitl [Htk] <;> iassumption

/-- The set-up of the whole mesh at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed, dealt -/

theorem bar_eq_iff {a b : Dev nD} : barCell a = barCell b ↔ a = b := ⟨fun h => congrArg (fun g : GSem nD τ sig => g.1.1) h, fun h => h ▸ rfl⟩

/-- What device `d` owes device `c`'s barrier; -/
theorem owed_bar (d c : Dev nD) : O₀ d (barCell c) () = (if d = nxt c then 1 else 0) + (if d = prv c then 1 else 0) := by
  have h0 : OR d 0 (barCell c) () = 0 := by
    by_contra h
    obtain ⟨i, -, hi⟩ := OR_pos (Nat.pos_of_ne_zero h)
    exact absurd (congrArg Prod.snd hi) (fun h' => by cases h')
  unfold O₀ O₁
  rw [Pi.add_apply, Finsupp.add_apply, Pi.add_apply, Finsupp.add_apply, h0, tallyAt_apply, tallyAt_apply, Nat.zero_add, Nat.add_comm]
  congr 1
  · exact if_congr ⟨fun h => by rw [bar_eq_iff.mp h.1, nxt_prv], fun h => ⟨by rw [h, prv_nxt], rfl⟩⟩ rfl rfl
  · exact if_congr ⟨fun h => by rw [bar_eq_iff.mp h.1, prv_nxt], fun h => ⟨by rw [h, nxt_prv], rfl⟩⟩ rfl rfl

/-- and its `i`-th receive. -/
theorem owed_recv (d c : Dev nD) (i : Fin 8) : O₀ d (vCell c i) () = if d = src i c then amt i else 0 := by
  unfold O₀ O₁ OR
  rw [Pi.add_apply, Finsupp.add_apply, Pi.add_apply, Finsupp.add_apply, Finset.sum_apply, Finsupp.finset_sum_apply,
    tallyAt_ne_cell (fun h => by cases congrArg Prod.snd h), tallyAt_ne_cell (fun h => by cases congrArg Prod.snd h), Finsupp.zero_apply, Nat.add_zero, Nat.add_zero,
    Finset.sum_eq_single i]
  · rw [tallyAt_apply]
    refine if_congr ⟨fun h => ?_, fun h => ⟨by rw [h, tgt_src], rfl⟩⟩ rfl rfl
    rw [show c = tgt i d from congrArg (fun g : GSem nD τ sig => g.1.1) h.1, src_tgt]
  · intro j _ hj
    rw [tallyAt_ne_cell fun h => hj ?_, Finsupp.zero_apply]
    have hv : vSem i = vSem j := SemLoc.dma.inj (congrArg Prod.snd h)
    exact Fin.ext (by have := congrArg Fin.val hv; simp only [vSem] at this; omega)
  · intro h; exact absurd (Finset.mem_filter.mpr ⟨Finset.mem_univ i, Nat.zero_le i.val⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_recv (c : Dev nD) (i : Fin 8) :
    tallyOn (vCell c i) (launchCredit (Pipeline.owing O₀) 0 (vCell c i)) = (tallyAt (vCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (src i c) fun _ => amt i,
    if_pos (Finset.mem_univ _)]

theorem recvSem_injective : Function.Injective fun i : Fin 8 => (SemLoc.dma (vSem i) : SemLoc sig) := by decide +kernel

theorem creds (c : Dev nD) :
    (Pipeline.launchCred O₀ c : sProp 𝕄) ⊢ iprop(cred (tallyAt (barCell c) () 2) ∗ bigSep Finset.univ fun i => cred (tallyAt (vCell c i) () (amt i))) := by
  unfold Pipeline.launchCred
  rw [bigSep_univ_at _ (SemLoc.reg barS), launch_bar]
  refine sep_mono_right ((bigSep_subset (t := Finset.univ.map ⟨_, recvSem_injective⟩) ?_).trans ?_)
  · intro s hs
    obtain ⟨i, -, rfl⟩ := Finset.mem_map.mp hs
    exact Finset.mem_erase.mpr ⟨fun h => (by cases h), Finset.mem_univ _⟩
  · rw [bigSep_map]
    exact bigSep_mono fun i _ => BI.BIBase.Entails.of_eq (congrArg cred (launch_recv c i))

end Cert.RingProof

end
-- ==== Proof.Launch.lean ====
/-
# The run of the whole mesh

Every fair execution of the four devices ends, with every semaphore at zero, the operands as they were, and each device's
result in ten row blocks, each the product of the rows it is for.
-/
module

public import proofs.«01_k».proof.Proof.Point
public import proofs.«01_k».proof.Proof.Setup
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hv, HL, Hcr, -, HG⟩
  ihave Hc := (creds (F := F) c) $$ Hcr
  icases Hc with ⟨Hb, HV⟩
  imodintro
  isplitl
  · unfold start G'
    isplitl [HG]; · iexact HG
    isplitl [HL]; · iexact HL
    isplitl [Hb]; · iexact Hb
    isplitl [HV]; · iexact HV
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  iintro ⟨Hs, -, Hr⟩
  iapply (enter m c)
  isplitl [Hs] <;> iassumption

/-- What is left of the mesh's own at the end: the barrier at zero and the result written. -/
def fin (c : Dev nD) : sProp 𝕄 :=
  iprop(unscopedSems0 c ∗ ∃ g, ⌜Written m c g⌝ ∗ ((c : Thread nD τ).loc main_v1 ↦{fullShare} g))

theorem phi1_exit (c : Dev nD) :
    (dats m 0 c).Φ (Fin.last cfg0.N) ⊢ iprop(fin m c ∗ Pipeline.ownSems0 osem c ∗ Pipeline.scopedRest cfg0.spec c) := by
  show Φ₁ m c ⊢ _
  unfold fin
  rw [ownSems0_eq, unscopedSems0_eq]
  iintro H
  ihave H := (leave m c) $$ H
  icases H with ⟨Hb, HS, HV, HI, Hres, Hr⟩
  isplitl [Hb Hres]
  · isplitl [Hb] <;> iassumption
  isplitl [HS HV HI]
  · isplitl [HS HV]
    · isplitl [HS] <;> iassumption
    · iexact HI
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The result and the barrier's counter, read off the final state. -/
theorem fin_read (c : Dev nD) (s' : Phys nD τ sig (Elt F)) :
    iprop(fin m c ∗ emp ∗ SI s') ⊢ (|={Set.univ}=> iprop(⌜(∀ sm : SemLoc sig, sm.isScoped .tc = false → s'.mem.sem ((c.tc : Thread nD τ), sm) = 0)
      ∧ Written m c (s'.mem.mem ((c : Thread nD τ).loc main_v1))⌝ ∗ SI s') : sProp 𝕄) := by
  unfold fin
  iintro ⟨⟨Hu, ⟨%g, %hg, Hv⟩⟩, -, HSI⟩
  icombine HSI Hv gives %hv
  imod (Pipeline.unscopedSems0_read (X := unscopedSems0 c) (c := c) fupd_intro s') $$ [Hu HSI] with H
  · isplitl [Hu] <;> iassumption
  icases H with ⟨%hu, HSI⟩
  imodintro
  isplitr
  · ipureintro; exact ⟨hu, by rw [Buf.eq_of_forall_mem_univ hv]; exact hg⟩
  iexact HSI

/-- The operands' arrays at the end. -/
def finalA (c : Dev nD) (w : Fin cfg0.W) : Buf (Elt F) ((cfg0.win w).arr.view.loc (c : Thread nD τ)) := (dats m 0 c).arrAt w cfg0.N

def Ended : PUnit × MemSt nD τ sig (Elt F) → Prop := fun r =>
  ∀ c : Dev nD, Written m c (r.2.mem ((c : Thread nD τ).loc main_v1)) ∧ ∀ w : Fin cfg0.W, r.2.mem ((cfg0.win w).arr.view.loc (c : Thread nD τ)) = finalA m c w

/-- **THE RUN**, for any float values and from any memory: it ends, the results written, the operands kept, every semaphore
    at zero. -/
theorem run_main : θ_run defs (onTc (τ := τ) (main (F := F))) ⟨m, fun _ => 0, ρ⟩ (fun r => Ended m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := u₀_split $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ Written m c (s.mem ((c : Thread nD τ).loc main_v1)))
    (hY := fin_read m)
    (hQ := fun _ h hs => ⟨fun c => ⟨(h c).2.2.2, (h c).1⟩, sem_eq_zero hs fun c => (h c).2.2.1⟩)

/-- The operands' arrays at the end hold what they held. -/
theorem finalA_a (c : Dev nD) : finalA m c (0 : Fin 2) = m ((c.tc : Thread nD τ).loc main_arg0) := (dats (F := F) m 0 c).arrAt_in (0 : Fin 2) rfl _
theorem finalA_b (c : Dev nD) : finalA m c (1 : Fin 2) = m ((c.tc : Thread nD τ).loc main_arg1) := (dats (F := F) m 0 c).arrAt_in (1 : Fin 2) rfl _

end Cert.RingProof

end
-- ==== Proof.Value.lean ====
/-
# What the rows hold, over the extended reals

Rows of a device's block of `A` times `B` are the same rows of `A` times `B`: one lemma, for any number of rows, starting
anywhere in the block of any device. Ten uses of it say that a result whose ten row blocks are `Written` is the product.
-/
module

public import proofs.«01_k».proof.Proof.Launch
public import Idealize.ShloMosaic.Lib.MatmulPlain
public import Idealize.ShloMosaic.Lib.StackMember
public import Idealize.ShloMosaic.Lib.Layout
public import Idealize.ShloMosaic.Lib.Pipeline.Value
public import Idealize.ShloMosaic.Lib.Pipeline.ValueKit.Geometry

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-- The shape of the whole of `A`. -/
abbrev SA : Shape := ⟨2, ![4096, 512]⟩

/-- The product of the whole operands. -/
def whole (A : SA.Idx → Elt Ideal .f32) (B : S512x1024.Idx → Elt Ideal .f32) : S4096x1024.Idx → Elt Ideal .f32 :=
  Host.dotGeneral (F := Ideal) (φ₁ := .f32) (φ₂ := .f32) (DotDims.plain 4096 512 1024) none A B

/-! ## A row block -/

section Block

variable {n lo : ℕ} {d : Fin 4} {A : SA.Idx → Elt Ideal .f32} {B : S512x1024.Idx → Elt Ideal .f32}

/-- `n` rows of device `d`'s block, from row `lo` on, times `B`, placed at their rows of the result, are those rows of the product. -/
theorem rows_whole {off : Fin 2 → ℕ} (ho : off = ![1024 * d.val + lo, 0])
    {inb : ∀ a, off a + (⟨2, ![n, 1024]⟩ : Shape).size a ≤ S4096x1024.size a}
    {inbA : ∀ a, (![lo, 0] : Fin 2 → ℕ) a + (⟨2, ![n, 512]⟩ : Shape).size a ≤ S1024x512.size a}
    {X : S1024x512.Idx → Elt Ideal .bf16} {Y : S512x1024.Idx → Elt Ideal .bf16}
    (hX : X = Layout.block S1024x512 SA 0 4 d A) (hY : Y = B)
    {g : S4096x1024.Idx → Elt Ideal .f32}
    (hg : RowsAre (Rect.unit (s := S4096x1024) off (⟨2, ![n, 1024]⟩ : Shape).size inb) g
      (matmul (F := Ideal) (φ₁ := .bf16) (φ₂ := .bf16) (DotDims.plain n 512 1024) none (cut (α := Elt Ideal .bf16) (Rect.unit (s := S1024x512) ![lo, 0] (⟨2, ![n, 512]⟩ : Shape).size inbA) X) Y
        (constant (⟨2, ![n, 1024]⟩ : Shape) .f32 0x00000000#32)))
    (i : S4096x1024.Idx) (hi : i ∈ (Rect.unit (s := S4096x1024) off (⟨2, ![n, 1024]⟩ : Shape).size inb).set) :
    g i = whole A B i := by
  subst hX hY ho
  unfold RowsAre at hg
  rw [← Rect.map_emb_univ, Finset.mem_map] at hi
  obtain ⟨j, -, rfl⟩ := hi
  obtain ⟨a, b, rfl⟩ : ∃ (a : Fin n) (b : Fin 1024), j = ix2 a b := ⟨j 0, j 1, eq_ix2 j⟩
  refine (congrFun hg (ix2 a b)).trans ?_
  refine (Ideal.matmul_plain_apply none _ _ _ a b).trans ?_
  have he : (Rect.unit (s := S4096x1024) ![1024 * d.val + lo, 0] (⟨2, ![n, 1024]⟩ : Shape).size inb).emb (ix2 a b)
      = ix2 ⟨1024 * d.val + lo + a.val, by have := inb 0; have := a.isLt; simp at *; omega⟩ b := by
    funext x; apply Fin.ext
    match x with
    | ⟨0, _⟩ => exact ValueKit.rect_emb_unit_val _ _ _ _ _
    | ⟨1, _⟩ => exact (ValueKit.rect_emb_unit_val _ _ _ _ _).trans (Nat.zero_add _)
  rw [he]
  refine Eq.trans ?_ (StackMember.dotGeneral_plain_apply none A Y _ b).symm
  refine (congrArg (· + _) Ideal.ofBits_zero_f32).trans ((zero_add _).trans ?_)
  refine Finset.sum_congr rfl fun k _ => congrArg (· * Y (ix2 k b)) (congrArg A ?_)
  funext x; apply Fin.ext
  match x with
  | ⟨0, _⟩ =>
    show d.val * 1024 + ((Rect.unit (s := S1024x512) ![lo, 0] (⟨2, ![n, 512]⟩ : Shape).size inbA).emb (ix2 a k) 0).val = 1024 * d.val + lo + a.val
    rw [ValueKit.rect_emb_unit_val]
    show d.val * 1024 + (lo + a.val) = _
    omega
  | ⟨1, _⟩ => exact (ValueKit.rect_emb_unit_val _ _ _ _ _).trans (Nat.zero_add _)

end Block

/-! ## The staged operands -/

/-- A window's one block is its whole array, so what is staged is the operand. -/
theorem read_a (f : main_arg0.ty.Contents (Elt Ideal)) : (win0_0.blk t0_0).view.read (Elt Ideal) f = f :=
  Memref.read_access_unit_zero (Elt Ideal) main_arg0
    (show (fun a => (win0_0.index t0_0) a * main_arg0.ty.shape.size a) = fun _ => 0 from
      funext fun a => by fin_cases a <;> decide) (fun a => by fin_cases a <;> decide) f
theorem read_b (f : main_arg1.ty.Contents (Elt Ideal)) : (win0_1.blk t0_0).view.read (Elt Ideal) f = f :=
  Memref.read_access_unit_zero (Elt Ideal) main_arg1
    (show (fun a => (win0_1.index t0_0) a * main_arg1.ty.shape.size a) = fun _ => 0 from
      funext fun a => by fin_cases a <;> decide) (fun a => by fin_cases a <;> decide) f
theorem aStg_eq (c : Dev nD) : aStg m c = m ((c : Thread nD τ).loc main_arg0) := by
  show (win0_0.blk t0_0).view.read (Elt Ideal) (m ((c : Thread nD τ).loc main_arg0)) = _
  exact read_a _
theorem bStg_eq (c : Dev nD) : bStg m c = m ((c : Thread nD τ).loc main_arg1) := by
  show (win0_1.blk t0_0).view.read (Elt Ideal) (m ((c : Thread nD τ).loc main_arg1)) = _
  exact read_b _

/-- Over the extended reals the narrower format holds the same values. -/
theorem abf_eq (c : Dev nD) : abf m c = m ((c : Thread nD τ).loc main_arg0) := by
  rw [← aStg_eq m c]
  unfold abf k0_pay2 k0_pay1
  refine (shapeCast_self _ _).trans ?_
  show shapeCast S1024x512 (aStg m c) _ = _
  exact shapeCast_self _ _
theorem bbf_eq (c : Dev nD) : bbf m c = m ((c : Thread nD τ).loc main_arg1) := by
  rw [← bStg_eq m c]
  unfold bbf k0_pay3
  refine (shapeCast_self _ _).trans ?_
  show shapeCast S512x1024 (bStg m c) _ = _
  exact shapeCast_self _ _

/-! ## The result -/

/-- Ten row blocks written are the product, when the devices' operands are the blocks of `A`, and `B`. -/
theorem written_whole {A : SA.Idx → Elt Ideal .f32} {B : S512x1024.Idx → Elt Ideal .f32}
    (hA : ∀ c : Dev nD, m ((c : Thread nD τ).loc main_arg0) = Layout.block S1024x512 SA 0 4 c A)
    (hB : ∀ c : Dev nD, m ((c : Thread nD τ).loc main_arg1) = B)
    (c : Dev nD) (g : S4096x1024.Idx → Elt Ideal .f32) (h : Written m c g) : g = whole A B := by
  obtain ⟨h0, h1, h2, h3, h4, h5, h6, h7, h8, h9⟩ := h
  have ha (d : Dev nD) : abf m d = Layout.block S1024x512 SA 0 4 d A := (abf_eq m d).trans (hA d)
  have hb : bbf m c = B := (bbf_eq m c).trans (hB c)
  funext i
  obtain ⟨p, hp⟩ := row_cov c i
  match p, hp with
  | 0, hp => exact rows_whole (off1_eq c 0) (ha c) hb h0 i hp
  | 1, hp => exact rows_whole (off1_eq c 1) (ha c) hb h1 i hp
  | 2, hp => exact rows_whole (off2_eq c 0) (ha (prv c)) hb h2 i hp
  | 3, hp => exact rows_whole (off3_eq c 1) (ha (nxt c)) hb h3 i hp
  | 4, hp => exact rows_whole (off2_eq c 1) (ha (prv c)) hb h4 i hp
  | 5, hp => exact rows_whole (off3_eq c 0) (ha (nxt c)) hb h5 i hp
  | 6, hp => exact rows_whole (off4_eq c 0) (ha (opp c)) hb h6 i hp
  | 7, hp => exact rows_whole (off4_eq c 1) (ha (opp c)) hb h7 i hp
  | 8, hp => exact rows_whole (off4_eq c 2) (ha (opp c)) hb h8 i hp
  | 9, hp => exact rows_whole (off4_eq c 3) (ha (opp c)) hb h9 i hp

end Cert.RingProof

end
-- ==== Proof.lean ====
/-
# The certificate's claims

The kernel and its idealization end with their operands kept and every semaphore at zero, so does the reference, and over
the extended reals every device of the kernel ends holding the product that the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel
open Cert.RingProof (run_main finalA_a finalA_b written_whole whole)

/-- The kernel runs to its end, for any float values: `run_main`, read at the operands. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨((h.1 c).2 (0 : Fin 2)).trans (finalA_a m c), ((h.1 c).2 (1 : Fin 2)).trans (finalA_b m c)⟩, h.2⟩)
    (run_main m ρ)

/-- At the extended reals, -/
theorem frame_kernelIdeal : Cert.quiescent_KernelIdeal := fun m ρ _ => frame (F := Ideal) m ρ

/-- The program and its idealization are one text: their body tables are one, the one label read. -/
theorem same_bodies : Cert.Kernel.defs₀ (F := Bits) = Cert.KernelIdeal.defs₀ (F := Bits) := by
  unfold Cert.Kernel.defs₀ Cert.KernelIdeal.defs₀
  refine congrArg Defs.onTc ?_
  funext l x
  match l, x with
  | 0, ⟨t, s⟩ => exact rfl
theorem same_defs : Cert.Kernel.defs (F := Bits) = Cert.KernelIdeal.defs (F := Bits) :=
  congrArg (Idealize.ShloMosaic.Pipeline.defs Cert.KernelIdeal.pcfgs) same_bodies

/-- So the program too runs to its end, at the bit-exact values. -/
theorem frame_kernel : Cert.quiescent_Kernel := fun m ρ _ =>
  (congrArg (fun D => θ_run D (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) same_defs).mpr (frame (F := Bits) m ρ)

/-- And the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device ends with the product of the whole operands, which is what the reference computes. -/
theorem algebraic : Cert.algebraic_KernelIdeal_ReferenceIdeal := fun m ρ m' ρ' _ hag =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨written_whole m (fun d => (hag d).1) (fun d => (hag d).2) c _ (h.1 c).1,
        ((h.1 c).2 (0 : Fin 2)).trans (finalA_a m c), ((h.1 c).2 (1 : Fin 2)).trans (finalA_b m c)⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
